-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pointer_at_most_depth [hPre_pointer_at_most_depth : Cert.Pre_pointer_at_most_depth.Facts] (m : (ℓ : Loc Cert.KernelIdeal.nD Cert.KernelIdeal.τ Cert.KernelIdeal.sig) → Buf (Elt Ideal) ℓ) : Prop :=
  ∀ c : Dev Cert.KernelIdeal.nD,
    (Cert.Pre_pointer_at_most_depth.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pointer_at_most_depth [hPre_pointer_at_most_depth : Cert.Pre_pointer_at_most_depth.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pointer_at_most_depth.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pointer_at_most_depth [hKernelIdeal : Cert.KernelIdeal.Facts] [hPre_pointer_at_most_depth : Cert.Pre_pointer_at_most_depth.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pointer_at_most_depth m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pointer_at_most_depth [hReferenceIdeal : Cert.ReferenceIdeal.Facts] [hPre_pointer_at_most_depth : Cert.Pre_pointer_at_most_depth.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pointer_at_most_depth m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_pointer_at_most_depth [hKernelIdeal : Cert.KernelIdeal.Facts] [hReferenceIdeal : Cert.ReferenceIdeal.Facts] [hPre_pointer_at_most_depth : Cert.Pre_pointer_at_most_depth.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pointer_at_most_depth m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pointer_at_most_depth : Cert.Pre_pointer_at_most_depth.Facts),
    quiescent_Kernel (hKernel := hKernel)
    ∧ quiescent_KernelIdeal (hKernelIdeal := hKernelIdeal)
    ∧ quiescent_KernelIdeal_pre_pointer_at_most_depth (hKernelIdeal := hKernelIdeal) (hPre_pointer_at_most_depth := hPre_pointer_at_most_depth)
    ∧ quiescent_ReferenceIdeal (hReferenceIdeal := hReferenceIdeal)
    ∧ quiescent_ReferenceIdeal_pre_pointer_at_most_depth (hReferenceIdeal := hReferenceIdeal) (hPre_pointer_at_most_depth := hPre_pointer_at_most_depth)
    ∧ preserves_Kernel_KernelIdeal
    ∧ algebraic_KernelIdeal_ReferenceIdeal_pre_pointer_at_most_depth (hKernelIdeal := hKernelIdeal) (hReferenceIdeal := hReferenceIdeal) (hPre_pointer_at_most_depth := hPre_pointer_at_most_depth)
-- ==== Pre_pointer_at_most_depth.lean ====
abbrev S1024x4096 : Shape := ⟨2, ![1024, 4096]⟩
abbrev S1024x8x4096 : Shape := ⟨3, ![1024, 8, 4096]⟩
abbrev S1024x1 : Shape := ⟨2, ![1024, 1]⟩
abbrev S4096x4096 : Shape := ⟨2, ![4096, 4096]⟩
abbrev S4096 : Shape := ⟨1, ![4096]⟩
abbrev S4096x1 : Shape := ⟨2, ![4096, 1]⟩
abbrev S1 : Shape := ⟨1, ![1]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x4096 .f32) (main_arg1 : FVec F S1024x8x4096 .f32) (main_arg2 : FVec F S1024x1 .f32) (main_arg3 : FVec F S4096x4096 .f32) (main_arg4 : FVec F S4096 .f32) (main_arg5 : FVec F S4096x1 .f32) (main_arg6 : FVec F S1 .f32) (main_arg7 : FVec F S4096 .f32) (main_arg8 : FVec F S4096 .f32) : IVec S_ 1 :=
  let main_v0 : IVec S1024x1 32 := fptosi 32 main_arg2
  let main_c : IVec S_ 32 := constantI S_ 32 8#32
  let main_v1 : IVec S1024x1 32 := broadcastInDim S1024x1 ![] bcast_S_S1024x1 main_c
  let main_v2 : IVec S1024x1 1 := cmpi .sle main_v0 main_v1
  let main_c_0 : IVec S_ 1 := constantI S_ 1 1#1
  let main_v3 : IVec S_ 1 := (fun x v => Host.reduce IntOp.andi x v reducesTo_S1024x1_S_d0_1 h_S_) main_v2 main_c_0
  main_v3
-- ==== Kernel.lean ====
abbrev S1024x4096 : Shape := ⟨2, ![1024, 4096]⟩
abbrev S1024x8x4096 : Shape := ⟨3, ![1024, 8, 4096]⟩
abbrev S1024x1 : Shape := ⟨2, ![1024, 1]⟩
abbrev S4096x4096 : Shape := ⟨2, ![4096, 4096]⟩
abbrev S4096 : Shape := ⟨1, ![4096]⟩
abbrev S4096x1 : Shape := ⟨2, ![4096, 1]⟩
abbrev S1 : Shape := ⟨1, ![1]⟩
abbrev S1x4096 : Shape := ⟨2, ![1, 4096]⟩
abbrev S1x1 : Shape := ⟨2, ![1, 1]⟩
abbrev S1024x512 : Shape := ⟨2, ![1024, 512]⟩
abbrev S512x4096 : Shape := ⟨2, ![512, 4096]⟩
abbrev S512x1 : Shape := ⟨2, ![512, 1]⟩
abbrev S256x1 : Shape := ⟨2, ![256, 1]⟩
abbrev S256x4096 : Shape := ⟨2, ![256, 4096]⟩
abbrev S256 : Shape := ⟨1, ![256]⟩
abbrev S64x8x4096 : Shape := ⟨3, ![64, 8, 4096]⟩
abbrev S64x4096 : Shape := ⟨2, ![64, 4096]⟩
abbrev S64x1 : Shape := ⟨2, ![64, 1]⟩
abbrev S64x1x1 : Shape := ⟨3, ![64, 1, 1]⟩
abbrev S64x8x1 : Shape := ⟨3, ![64, 8, 1]⟩
abbrev S64x1x4096 : Shape := ⟨3, ![64, 1, 4096]⟩

abbrev nBuf : Space → Nat
  | .hbm => 19
  | .vmem => 34
  | .smem => 0
  | _ => 0

abbrev bufTy : (tb : Table) → Fin (tcTables nBuf tb) → BufTy
  | .hbm, ⟨0, _⟩ => ⟨S1024x4096, .f32⟩
  | .hbm, ⟨1, _⟩ => ⟨S1024x8x4096, .f32⟩
  | .hbm, ⟨2, _⟩ => ⟨S1024x1, .f32⟩
  | .hbm, ⟨3, _⟩ => ⟨S4096x4096, .f32⟩
  | .hbm, ⟨4, _⟩ => ⟨S4096, .f32⟩
  | .hbm, ⟨5, _⟩ => ⟨S4096x1, .f32⟩
  | .hbm, ⟨6, _⟩ => ⟨S1, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x1, .f32⟩
  | .hbm, ⟨13, _⟩ => ⟨S1024x4096, .f32⟩
  | .hbm, ⟨14, _⟩ => ⟨S1024x1, .f32⟩
  | .hbm, ⟨15, _⟩ => ⟨S1024x1, .i32⟩
  | .hbm, ⟨16, _⟩ => ⟨S1024x1, .i32⟩
  | .hbm, ⟨17, _⟩ => ⟨S1024x8x4096, .f32⟩
  | .hbm, ⟨18, _⟩ => ⟨S1024x4096, .f32⟩
  | .local _ .vmem, ⟨0, _⟩ => ⟨S1024x512, .f32⟩
  | .local _ .vmem, ⟨1, _⟩ => ⟨S1024x512, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S512x1, .f32⟩
  | .local _ .vmem, ⟨8, _⟩ => ⟨S512x1, .f32⟩
  | .local _ .vmem, ⟨9, _⟩ => ⟨S1x1, .f32⟩
  | .local _ .vmem, ⟨10, _⟩ => ⟨S256x1, .f32⟩
  | .local _ .vmem, ⟨11, _⟩ => ⟨S256x1, .f32⟩
  | .local _ .vmem, ⟨12, _⟩ => ⟨S256x4096, .f32⟩
  | .local _ .vmem, ⟨13, _⟩ => ⟨S256x4096, .f32⟩
  | .local _ .vmem, ⟨14, _⟩ => ⟨S256x1, .f32⟩
  | .local _ .vmem, ⟨15, _⟩ => ⟨S256x1, .f32⟩
  | .local _ .vmem, ⟨16, _⟩ => ⟨S256x1, .i32⟩
  | .local _ .vmem, ⟨17, _⟩ => ⟨S256x1, .i32⟩
  | .local _ .vmem, ⟨18, _⟩ => ⟨S256x1, .i32⟩
  | .local _ .vmem, ⟨19, _⟩ => ⟨S256x1, .i32⟩
  | .local _ .vmem, ⟨20, _⟩ => ⟨S1024x4096, .f32⟩
  | .local _ .vmem, ⟨21, _⟩ => ⟨S1024x1, .f32⟩
  | .local _ .vmem, ⟨22, _⟩ => ⟨S64x8x4096, .f32⟩
  | .local _ .vmem, ⟨23, _⟩ => ⟨S64x8x4096, .f32⟩
  | .local _ .vmem, ⟨24, _⟩ => ⟨S64x4096, .f32⟩
  | .local _ .vmem, ⟨25, _⟩ => ⟨S64x4096, .f32⟩
  | .local _ .vmem, ⟨26, _⟩ => ⟨S64x1, .i32⟩
  | .local _ .vmem, ⟨27, _⟩ => ⟨S64x1, .i32⟩
  | .local _ .vmem, ⟨28, _⟩ => ⟨S64x1, .i32⟩
  | .local _ .vmem, ⟨29, _⟩ => ⟨S64x1, .i32⟩
  | .local _ .vmem, ⟨30, _⟩ => ⟨S64x8x4096, .f32⟩
  | .local _ .vmem, ⟨31, _⟩ => ⟨S64x8x4096, .f32⟩
  | .local _ .vmem, ⟨32, _⟩ => ⟨S64x4096, .f32⟩
  | .local _ .vmem, ⟨33, _⟩ => ⟨S64x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31

abbrev nD : Nat := 1
abbrev τ : Topo := Topo.v7x

variable {F : FTy → Type} [FloatOps F]

abbrev grid0 : Pipeline.Grid := ⟨1, ![12], ![false]⟩

def k0_cond4 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c8_i32_2 : BitVec 32 := 8#32
  let v6 : BitVec 32 := Scalar.subi arg0 c8_i32_2
  let c256_i32 : BitVec 32 := 256#32
  let v7 : BitVec 32 := Scalar.muli v6 c256_i32
  let v8 : Index := Scalar.indexCast v7
  let c0 : Index := 0#32
  ![v8.toNat, 0]
def k0_off2 (i : grid0.Coords) : Fin 2 → Nat :=
  let arg0 : BitVec 32 := BitVec.ofNat 32 (i 0).val
  let c8_i32_2 : BitVec 32 := 8#32
  let v6 : BitVec 32 := Scalar.subi arg0 c8_i32_2
  let c256_i32 : BitVec 32 := 256#32
  let v7 : BitVec 32 := Scalar.muli v6 c256_i32
  let v38 : Index := Scalar.indexCast v7
  let c0_13 : Index := 0#32
  ![v38.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x8x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1024x4096 : Shape := ⟨2, ![1024, 4096]⟩
abbrev S1024x8x4096 : Shape := ⟨3, ![1024, 8, 4096]⟩
abbrev S1024x1 : Shape := ⟨2, ![1024, 1]⟩
abbrev S4096x4096 : Shape := ⟨2, ![4096, 4096]⟩
abbrev S4096 : Shape := ⟨1, ![4096]⟩
abbrev S4096x1 : Shape := ⟨2, ![4096, 1]⟩
abbrev S1 : Shape := ⟨1, ![1]⟩
abbrev S1x4096 : Shape := ⟨2, ![1, 4096]⟩
abbrev S_ : Shape := ⟨0, ![]⟩
abbrev S1024 : Shape := ⟨1, ![1024]⟩
abbrev S1x1 : Shape := ⟨2, ![1, 1]⟩
abbrev S8 : Shape := ⟨1, ![8]⟩
abbrev S1x8 : Shape := ⟨2, ![1, 8]⟩
abbrev S1024x8 : Shape := ⟨2, ![1024, 8]⟩
abbrev S1024x8x1 : Shape := ⟨3, ![1024, 8, 1]⟩
abbrev S1024x1x4096 : Shape := ⟨3, ![1024, 1, 4096]⟩
abbrev S1024x1x1 : Shape := ⟨3, ![1024, 1, 1]⟩
abbrev S1x1x1 : Shape := ⟨3, ![1, 1, 1]⟩

abbrev nBuf : Space → Nat
  | .hbm => 144
  | .vmem => 0
  | .smem => 0
  | _ => 0

abbrev hbmTy0_0 (i : Nat) : BufTy := match i % 128 with
  | 0 => ⟨S1024x4096, .f32⟩
  | 1 => ⟨S1024x8x4096, .f32⟩
  | 2 => ⟨S1024x1, .f32⟩
  | 3 => ⟨S4096x4096, .f32⟩
  | 4 => ⟨S4096, .f32⟩
  | 5 => ⟨S4096x1, .f32⟩
  | 6 => ⟨S1, .f32⟩
  | 7 => ⟨S4096, .f32⟩
  | 8 => ⟨S4096, .f32⟩
  | 9 => ⟨S1024x4096, .f32⟩
  | 10 => ⟨S1x4096, .f32⟩
  | 11 => ⟨S1024x4096, .f32⟩
  | 12 => ⟨S1024x4096, .f32⟩
  | 13 => ⟨S_, .f32⟩
  | 14 => ⟨S1024, .f32⟩
  | 15 => ⟨S1024x1, .f32⟩
  | 16 => ⟨S_, .f32⟩
  | 17 => ⟨S1024x1, .f32⟩
  | 18 => ⟨S1024x1, .f32⟩
  | 19 => ⟨S1024x4096, .f32⟩
  | 20 => ⟨S1024x4096, .f32⟩
  | 21 => ⟨S1024x4096, .f32⟩
  | 22 => ⟨S_, .f32⟩
  | 23 => ⟨S1024, .f32⟩
  | 24 => ⟨S1024x1, .f32⟩
  | 25 => ⟨S_, .f32⟩
  | 26 => ⟨S1024x1, .f32⟩
  | 27 => ⟨S1024x1, .f32⟩
  | 28 => ⟨S1024x4096, .f32⟩
  | 29 => ⟨S1024x4096, .f32⟩
  | 30 => ⟨S_, .f32⟩
  | 31 => ⟨S1024x1, .f32⟩
  | 32 => ⟨S1024x1, .f32⟩
  | 33 => ⟨S1024x1, .f32⟩
  | 34 => ⟨S1024x4096, .f32⟩
  | 35 => ⟨S1024x4096, .f32⟩
  | 36 => ⟨S1x4096, .f32⟩
  | 37 => ⟨S1024x4096, .f32⟩
  | 38 => ⟨S1024x4096, .f32⟩
  | 39 => ⟨S1x4096, .f32⟩
  | 40 => ⟨S1024x4096, .f32⟩
  | 41 => ⟨S1024x4096, .f32⟩
  | 42 => ⟨S1024x1, .f32⟩
  | 43 => ⟨S1x1, .f32⟩
  | 44 => ⟨S1024x1, .f32⟩
  | 45 => ⟨S1024x1, .f32⟩
  | 46 => ⟨S1024x1, .f32⟩
  | 47 => ⟨S1024x1, .f32⟩
  | 48 => ⟨S_, .f32⟩
  | 49 => ⟨S1024x1, .f32⟩
  | 50 => ⟨S1024x1, .f32⟩
  | 51 => ⟨S_, .f32⟩
  | 52 => ⟨S1024x1, .f32⟩
  | 53 => ⟨S1024x1, .f32⟩
  | 54 => ⟨S1024, .f32⟩
  | 55 => ⟨S_, .f32⟩
  | 56 => ⟨S1024, .f32⟩
  | 57 => ⟨S1024, .i1⟩
  | 58 => ⟨S1024, .f32⟩
  | 59 => ⟨S1024, .i32⟩
  | 60 => ⟨S_, .i32⟩
  | 61 => ⟨S1024, .i32⟩
  | 62 => ⟨S1024, .i1⟩
  | 63 => ⟨S1024, .i1⟩
  | 64 => ⟨S1024, .i1⟩
  | 65 => ⟨S_, .i32⟩
  | 66 => ⟨S1024, .i32⟩
  | 67 => ⟨S1024, .i1⟩
  | 68 => ⟨S1024, .i1⟩
  | 69 => ⟨S1024, .i1⟩
  | 70 => ⟨S1024, .i1⟩
  | 71 => ⟨S1024, .i1⟩
  | 72 => ⟨S_, .i32⟩
  | 73 => ⟨S1024, .i32⟩
  | 74 => ⟨S1024, .i1⟩
  | 75 => ⟨S1024, .i1⟩
  | 76 => ⟨S8, .i32⟩
  | 77 => ⟨S1x8, .i32⟩
  | 78 => ⟨S1024x1, .i32⟩
  | 79 => ⟨S1024x8, .i32⟩
  | 80 => ⟨S1024x8, .i32⟩
  | 81 => ⟨S1024x8, .i1⟩
  | 82 => ⟨S1024x1, .i1⟩
  | 83 => ⟨S1024x8, .i1⟩
  | 84 => ⟨S1024x8, .i1⟩
  | 85 => ⟨S1024x8x1, .i1⟩
  | 86 => ⟨S1024x1x4096, .f32⟩
  | 87 => ⟨S1024x8x4096, .i1⟩
  | 88 => ⟨S1024x8x4096, .f32⟩
  | 89 => ⟨S1024x8x4096, .f32⟩
  | 90 => ⟨S_, .i32⟩
  | 91 => ⟨S1024, .i32⟩
  | 92 => ⟨S1024, .i32⟩
  | 93 => ⟨S_, .i32⟩
  | 94 => ⟨S1024, .i32⟩
  | 95 => ⟨S1024, .i32⟩
  | 96 => ⟨S1024, .i32⟩
  | 97 => ⟨S1024, .i32⟩
  | 98 => ⟨S1024, .f32⟩
  | 99 => ⟨S1024x1, .f32⟩
  | 100 => ⟨S_, .i32⟩
  | 101 => ⟨S1024, .i32⟩
  | 102 => ⟨S1024, .i32⟩
  | 103 => ⟨S_, .i32⟩
  | 104 => ⟨S_, .i32⟩
  | 105 => ⟨S_, .i32⟩
  | 106 => ⟨S1024, .i32⟩
  | 107 => ⟨S1024, .i32⟩
  | 108 => ⟨S_, .i32⟩
  | 109 => ⟨S1024, .i32⟩
  | 110 => ⟨S1024, .i32⟩
  | 111 => ⟨S1024x1x1, .i32⟩
  | 112 => ⟨S_, .i32⟩
  | 113 => ⟨S1024x1x1, .i32⟩
  | 114 => ⟨S1024x1x1, .i1⟩
  | 115 => ⟨S_, .i32⟩
  | 116 => ⟨S1024x1x1, .i32⟩
  | 117 => ⟨S1024x1x1, .i32⟩
  | 118 => ⟨S1024x1x1, .i32⟩
  | 119 => ⟨S1, .i32⟩
  | 120 => ⟨S_, .i32⟩
  | 121 => ⟨S1024x1x1, .i32⟩
  | 122 => ⟨S1024x1x1, .i1⟩
  | 123 => ⟨S1x1x1, .i32⟩
  | 124 => ⟨S1024x1x1, .i32⟩
  | 125 => ⟨S1024x1x1, .i1⟩
  | 126 => ⟨S1024x1x1, .i1⟩
  | 127 => ⟨S_, .i1⟩
  | _ => ⟨S1024x4096, .f32⟩

abbrev hbmTy0_1 (i : Nat) : BufTy := match i % 128 with
  | 0 => ⟨S1024x1, .i1⟩
  | 1 => ⟨S1024x1x4096, .f32⟩
  | 2 => ⟨S1024x1x4096, .i1⟩
  | 3 => ⟨S_, .f32⟩
  | 4 => ⟨S1024x1x4096, .f32⟩
  | 5 => ⟨S1024x1x4096, .f32⟩
  | 6 => ⟨S1024x4096, .f32⟩
  | 7 => ⟨S1024x1, .i1⟩
  | 8 => ⟨S1024, .i1⟩
  | 9 => ⟨S1024x1, .i1⟩
  | 10 => ⟨S_, .f32⟩
  | 11 => ⟨S1024x4096, .f32⟩
  | 12 => ⟨S1024x4096, .i1⟩
  | 13 => ⟨S1024x4096, .f32⟩
  | 14 => ⟨S1024x4096, .i1⟩
  | 15 => ⟨S1024x4096, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call0_v0 : Ref sig .tc := ⟨.hbm, 87, rfl⟩
abbrev main_call0_v1 : Ref sig .tc := ⟨.hbm, 88, rfl⟩
abbrev main_v67 : Ref sig .tc := ⟨.hbm, 89, rfl⟩
abbrev main_c_9 : Ref sig .tc := ⟨.hbm, 90, rfl⟩
abbrev main_v68 : Ref sig .tc := ⟨.hbm, 91, rfl⟩
abbrev main_v69 : Ref sig .tc := ⟨.hbm, 92, rfl⟩
abbrev main_c_10 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_11 : Ref sig .tc := ⟨.hbm, 100, rfl⟩
abbrev main_v76 : Ref sig .tc := ⟨.hbm, 101, rfl⟩
abbrev main_v77 : Ref sig .tc := ⟨.hbm, 102, rfl⟩
abbrev main_c_12 : Ref sig .tc := ⟨.hbm, 103, rfl⟩
abbrev main_c_13 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v78 : Ref sig .tc := ⟨.hbm, 110, rfl⟩
abbrev main_v79 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_c_1 : Ref sig .tc := ⟨.hbm, 119, rfl⟩
abbrev main_call4_c_2 : Ref sig .tc := ⟨.hbm, 120, rfl⟩
abbrev main_call4_v5 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_c_3 : Ref sig .tc := ⟨.hbm, 127, rfl⟩
abbrev main_call4_v11 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_14 : Ref sig .tc := ⟨.hbm, 138, rfl⟩
abbrev main_v85 : Ref sig .tc := ⟨.hbm, 139, rfl⟩
abbrev main_call5_v0 : Ref sig .tc := ⟨.hbm, 140, rfl⟩
abbrev main_v86 : Ref sig .tc := ⟨.hbm, 141, rfl⟩
abbrev main_call6_v0 : Ref sig .tc := ⟨.hbm, 142, rfl⟩
abbrev main_v87 : Ref sig .tc := ⟨.hbm, 143, rfl⟩

abbrev nD : Nat := 1
abbrev τ : Topo := Topo.v7x

variable {F : FTy → Type} [FloatOps F]
-- ==== Proof.IBody.lean ====
/-
  The two kernel bodies, each as one triple, and the pipelines' proof data.

  The first kernel runs twelve grid points. Points 0, …, 7 add the product of one block of columns of the hidden state
  with the matching block of rows of the weights into two scratch accumulators (`accAt`, `gaccAt`: what they hold after
  point `n`); points 8, …, 11 each read 256 rows of the accumulators and write the four output blocks. The output
  windows are untouched before point 8. The second kernel treats sixteen blocks of 64 rows independently.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the bodies access -/

abbrev rH : Rect S1024x512 := Rect.unit (s := S1024x512) ![0, 0] S1024x512.size inb_S1024x512_S1024x512_0_0
abbrev rW : Rect S512x4096 := Rect.unit (s := S512x4096) ![0, 0] S512x4096.size inb_S512x4096_S512x4096_0_0
abbrev rRow : Rect S1x4096 := Rect.unit (s := S1x4096) ![0, 0] S1x4096.size inb_S1x4096_S1x4096_0_0
abbrev rWg : Rect S512x1 := Rect.unit (s := S512x1) ![0, 0] S512x1.size inb_S512x1_S512x1_0_0
abbrev rOne : Rect S1x1 := Rect.unit (s := S1x1) ![0, 0] S1x1.size inb_S1x1_S1x1_0_0
abbrev rCol : Rect S256x1 := Rect.unit (s := S256x1) ![0, 0] S256x1.size inb_S256x1_S256x1_0_0
abbrev rTop : Rect S256x4096 := Rect.unit (s := S256x4096) ![0, 0] S256x4096.size inb_S256x4096_S256x4096_0_0
abbrev rA : Rect S1024x4096 := Rect.unit (s := S1024x4096) ![0, 0] S1024x4096.size inb_S1024x4096_S1024x4096_0_0
abbrev rG : Rect S1024x1 := Rect.unit (s := S1024x1) ![0, 0] S1024x1.size inb_S1024x1_S1024x1_0_0
/-- The 256 rows of the accumulators a late point reads. -/
abbrev rAi (i : grid0.Coords) (h : k0_cond4 i = 1#1) : Rect S1024x4096 := Rect.unit (s := S1024x4096) (k0_off1 i) S256x4096.size (k0_off1_inb i h)
abbrev rGi (i : grid0.Coords) (h : k0_cond4 i = 1#1) : Rect S1024x1 := Rect.unit (s := S1024x1) (k0_off2 i) S256x1.size (k0_off2_inb i h)
abbrev rSlot : Rect S64x1 := Rect.unit (s := S64x1) ![0, 0] S64x1.size inb_S64x1_S64x1_0_0
abbrev rStk : Rect S64x8x4096 := Rect.unit (s := S64x8x4096) ![0, 0, 0] S64x8x4096.size inb_S64x8x4096_S64x8x4096_0_0_0
abbrev rTop1 : Rect S64x4096 := Rect.unit (s := S64x4096) ![0, 0] S64x4096.size inb_S64x4096_S64x4096_0_0

theorem cover_rA (p : Vec F S1024x4096 .f32) (y : S1024x4096.Idx) :
    ∃ pc ∈ ([⟨rA, p⟩] : List (View.Piece (Elt F) S1024x4096 .f32)), y ∈ pc.1.set := View.cover_of_tiled [⟨rA, p⟩] S1024x4096.size (by rfl) y
theorem cover_rG (p : Vec F S1024x1 .f32) (y : S1024x1.Idx) :
    ∃ pc ∈ ([⟨rG, p⟩] : List (View.Piece (Elt F) S1024x1 .f32)), y ∈ pc.1.set := View.cover_of_tiled [⟨rG, p⟩] S1024x1.size (by rfl) y
theorem cover_rTop (p : Vec F S256x4096 .f32) (y : S256x4096.Idx) :
    ∃ pc ∈ ([⟨rTop, p⟩] : List (View.Piece (Elt F) S256x4096 .f32)), y ∈ pc.1.set := View.cover_of_tiled [⟨rTop, p⟩] S256x4096.size (by rfl) y
theorem cover_rCol (p : Vec F S256x1 .f32) (y : S256x1.Idx) :
    ∃ pc ∈ ([⟨rCol, p⟩] : List (View.Piece (Elt F) S256x1 .f32)), y ∈ pc.1.set := View.cover_of_tiled [⟨rCol, p⟩] S256x1.size (by rfl) y
theorem cover_rColI (p : Vec F S256x1 .i32) (y : S256x1.Idx) :
    ∃ pc ∈ ([⟨rCol, p⟩] : List (View.Piece (Elt F) S256x1 .i32)), y ∈ pc.1.set := View.cover_of_tiled [⟨rCol, p⟩] S256x1.size (by rfl) y
theorem cover_rStk (p : Vec F S64x8x4096 .f32) (y : S64x8x4096.Idx) :
    ∃ pc ∈ ([⟨rStk, p⟩] : List (View.Piece (Elt F) S64x8x4096 .f32)), y ∈ pc.1.set := View.cover_of_tiled [⟨rStk, p⟩] S64x8x4096.size (by rfl) y
theorem cover_rTop1 (p : Vec F S64x4096 .f32) (y : S64x4096.Idx) :
    ∃ pc ∈ ([⟨rTop1, p⟩] : List (View.Piece (Elt F) S64x4096 .f32)), y ∈ pc.1.set := View.cover_of_tiled [⟨rTop1, p⟩] S64x4096.size (by rfl) y

/-! ## What the bodies leave, as functions of what they read -/

/-- The accumulator after point 0, and after a later point from what it held. -/
def acc0 (x0 : Vec F S1024x512 .f32) (x1 : Vec F S512x4096 .f32) : Vec F S1024x4096 .f32 :=
  View.canon [⟨rA, k0_pay4 (View.ld x0 rH) (View.ld x1 rW)⟩]
def accS (x0 : Vec F S1024x512 .f32) (x1 : Vec F S512x4096 .f32) (xa : Vec F S1024x4096 .f32) : Vec F S1024x4096 .f32 :=
  View.canon [⟨rA, k0_pay6 (View.ld x0 rH) (View.ld x1 rW) (View.ld xa rA)⟩]
/-- The gate's accumulator likewise. -/
def gacc0 (x0 : Vec F S1024x512 .f32) (x5 : Vec F S512x1 .f32) : Vec F S1024x1 .f32 :=
  View.canon [⟨rG, k0_pay5 (View.ld x0 rH) (View.ld x5 rWg)⟩]
def gaccS (x0 : Vec F S1024x512 .f32) (x5 : Vec F S512x1 .f32) (xg : Vec F S1024x1 .f32) : Vec F S1024x1 .f32 :=
  View.canon [⟨rG, k0_pay7 (View.ld x0 rH) (View.ld x5 rWg) (View.ld xg rG)⟩]

/-- A late point's normalized rows and its gate word, from the accumulators and the row vectors. -/
abbrev nrm (i : grid0.Coords) (h : k0_cond4 i = 1#1) (x2 x3 x4 : Vec F S1x4096 .f32) (xa : Vec F S1024x4096 .f32) : FVec F S256x4096 .f32 :=
  k0_pay14 (View.ld xa (rAi i h)) (View.ld x2 rRow) (View.ld x3 rRow) (View.ld x4 rRow)
abbrev gate (i : grid0.Coords) (h : k0_cond4 i = 1#1) (x6 : Vec F S1x1 .f32) (xg : Vec F S1024x1 .f32) : IVec S256x1 1 :=
  k0_pay15 (View.ld xg (rGi i h)) (View.ld x6 rOne)

def topOut (i : grid0.Coords) (h : k0_cond4 i = 1#1) (x2 x3 x4 : Vec F S1x4096 .f32) (x6 : Vec F S1x1 .f32) (x7 : Vec F S256x1 .f32)
    (xa : Vec F S1024x4096 .f32) (xg : Vec F S1024x1 .f32) : Vec F S256x4096 .f32 :=
  View.canon [⟨rTop, k0_pay10 (nrm i h x2 x3 x4 xa) (gate i h x6 xg) (View.ld x7 rCol)⟩]
def ptrOut (i : grid0.Coords) (h : k0_cond4 i = 1#1) (x6 : Vec F S1x1 .f32) (x7 : Vec F S256x1 .f32) (xg : Vec F S1024x1 .f32) : Vec F S256x1 .f32 :=
  View.canon [⟨rCol, k0_pay11 (gate i h x6 xg) (View.ld x7 rCol)⟩]
def wslotOut (i : grid0.Coords) (h : k0_cond4 i = 1#1) (x6 : Vec F S1x1 .f32) (x7 : Vec F S256x1 .f32) (xg : Vec F S1024x1 .f32) : Vec F S256x1 .i32 :=
  View.canon (Val := Elt F) [⟨rCol, k0_pay12 (gate i h x6 xg) (View.ld x7 rCol)⟩]
def gslotOut (i : grid0.Coords) (h : k0_cond4 i = 1#1) (x6 : Vec F S1x1 .f32) (x7 : Vec F S256x1 .f32) (xg : Vec F S1024x1 .f32) : Vec F S256x1 .i32 :=
  View.canon (Val := Elt F) [⟨rCol, k0_pay13 (gate i h x6 xg) (View.ld x7 rCol)⟩]

/-- The second kernel's two blocks. -/
def stkOut (x0 : Vec F S64x8x4096 .f32) (x1 : Vec F S64x4096 .f32) (x2 : Vec F S64x1 .i32) : Vec F S64x8x4096 .f32 :=
  View.canon [⟨rStk, k1_pay1 (View.ld x2 rSlot) (View.ld x0 rStk) (View.ld x1 rTop1)⟩]
def itemOut (x0 : Vec F S64x8x4096 .f32) (x1 : Vec F S64x4096 .f32) (x3 : Vec F S64x1 .i32) : Vec F S64x4096 .f32 :=
  View.canon [⟨rTop1, k1_pay2 (View.ld x3 rSlot) (View.ld x0 rStk) (View.ld x3 rSlot) (View.ld x1 rTop1)⟩]

/-! ## The first kernel's body, at the three kinds of point -/

/-- The four conditions the body branches on. -/
abbrev early (i : grid0.Coords) : Prop := Scalar.cmpi .ne (Scalar.extui (Scalar.cmpi .slt (BitVec.ofNat 32 (i 0).val) 8#32) : BitVec 32) 0#32 = 1#1
abbrev first (i : grid0.Coords) : Prop := Scalar.cmpi .ne (Scalar.extui (Scalar.cmpi .eq (BitVec.ofNat 32 (i 0).val) 0#32) : BitVec 32) 0#32 = 1#1
abbrev later (i : grid0.Coords) : Prop := Scalar.cmpi .ne (Scalar.extui (Scalar.cmpi .ne (BitVec.ofNat 32 (i 0).val) 0#32) : BitVec 32) 0#32 = 1#1

set_option maxHeartbeats 1000000 in
/-- Point 0: the accumulators are set to the first products. -/
theorem sound_first (c : Dev nD) (E : Set ℕ) (i : grid0.Coords) (arg1 : Memref sig .tc .vmem S1024x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S512x1 .f32) (harg6 : arg6.IsWhole) (arg7 : Memref sig .tc .vmem S1x1 .f32) (harg7 : arg7.IsWhole) (arg8 : Memref sig .tc .vmem S256x1 .f32) (harg8 : arg8.IsWhole) (arg9 : Memref sig .tc .vmem S256x4096 .f32) (harg9 : arg9.IsWhole) (arg10 : Memref sig .tc .vmem S256x1 .f32) (harg10 : arg10.IsWhole) (arg11 : Memref sig .tc .vmem S256x1 .i32) (harg11 : arg11.IsWhole) (arg12 : Memref sig .tc .vmem S256x1 .i32) (harg12 : arg12.IsWhole) (arg13 : Memref sig .tc .vmem S1024x4096 .f32) (harg13 : arg13.IsWhole) (arg14 : Memref sig .tc .vmem S1024x1 .f32) (harg14 : arg14.IsWhole)
    (h1 : early i) (h2 : first i) (h3 : ¬ later i) (h4 : ¬ k0_cond4 i = 1#1) (x0 : Vec F S1024x512 .f32) (x1 : Vec F S512x4096 .f32) (x5 : Vec F S512x1 .f32)  (K : PUnit → sProp 𝕄) :
    iprop(owns (c : Thread nD τ) arg1 fullShare x0 ∗ owns (c : Thread nD τ) arg2 fullShare x1 ∗ owns (c : Thread nD τ) arg6 fullShare x5 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg6 fullShare x5 ∗ owns (c : Thread nD τ) arg13 fullShare (acc0 x0 x1) ∗ owns (c : Thread nD τ) arg14 fullShare (gacc0 x0 x5)) -∗ K ⟨⟩))
      ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__k1_body_eq_skeleton]; unfold cc0__k1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_rA _)
  iexists _; isplitr
  swap; · iexact H4
  ipureintro
  exact View.read_writes_eq_canon _ _ _ (cover_rG _)

set_option maxHeartbeats 1000000 in
/-- Points 1, …, 7: the next products are added. -/
theorem sound_later (c : Dev nD) (E : Set ℕ) (i : grid0.Coords) (arg1 : Memref sig .tc .vmem S1024x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S512x1 .f32) (harg6 : arg6.IsWhole) (arg7 : Memref sig .tc .vmem S1x1 .f32) (harg7 : arg7.IsWhole) (arg8 : Memref sig .tc .vmem S256x1 .f32) (harg8 : arg8.IsWhole) (arg9 : Memref sig .tc .vmem S256x4096 .f32) (harg9 : arg9.IsWhole) (arg10 : Memref sig .tc .vmem S256x1 .f32) (harg10 : arg10.IsWhole) (arg11 : Memref sig .tc .vmem S256x1 .i32) (harg11 : arg11.IsWhole) (arg12 : Memref sig .tc .vmem S256x1 .i32) (harg12 : arg12.IsWhole) (arg13 : Memref sig .tc .vmem S1024x4096 .f32) (harg13 : arg13.IsWhole) (arg14 : Memref sig .tc .vmem S1024x1 .f32) (harg14 : arg14.IsWhole)
    (h1 : early i) (h2 : ¬ first i) (h3 : later i) (h4 : ¬ k0_cond4 i = 1#1) (x0 : Vec F S1024x512 .f32) (x1 : Vec F S512x4096 .f32) (x5 : Vec F S512x1 .f32) (xa : Vec F S1024x4096 .f32) (xg : Vec F S1024x1 .f32) (K : PUnit → sProp 𝕄) :
    iprop(owns (c : Thread nD τ) arg1 fullShare x0 ∗ owns (c : Thread nD τ) arg2 fullShare x1 ∗ owns (c : Thread nD τ) arg6 fullShare x5 ∗ owns (c : Thread nD τ) arg13 fullShare xa ∗ owns (c : Thread nD τ) arg14 fullShare xg
        ∗ (iprop(owns (c : Thread nD τ) arg1 fullShare x0 ∗ owns (c : Thread nD τ) arg2 fullShare x1 ∗ owns (c : Thread nD τ) arg6 fullShare x5 ∗ owns (c : Thread nD τ) arg13 fullShare (accS x0 x1 xa) ∗ owns (c : Thread nD τ) arg14 fullShare (gaccS x0 x5 xg)) -∗ K ⟨⟩))
      ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_rA _)
  iexists _; isplitr
  swap; · iexact H4
  ipureintro
  exact View.read_writes_eq_canon _ _ _ (cover_rG _)

set_option maxHeartbeats 1000000 in
/-- Points 8, …, 11: 256 rows of the accumulators are read and the four output blocks written. -/
theorem sound_late (c : Dev nD) (E : Set ℕ) (i : grid0.Coords) (arg1 : Memref sig .tc .vmem S1024x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S512x1 .f32) (harg6 : arg6.IsWhole) (arg7 : Memref sig .tc .vmem S1x1 .f32) (harg7 : arg7.IsWhole) (arg8 : Memref sig .tc .vmem S256x1 .f32) (harg8 : arg8.IsWhole) (arg9 : Memref sig .tc .vmem S256x4096 .f32) (harg9 : arg9.IsWhole) (arg10 : Memref sig .tc .vmem S256x1 .f32) (harg10 : arg10.IsWhole) (arg11 : Memref sig .tc .vmem S256x1 .i32) (harg11 : arg11.IsWhole) (arg12 : Memref sig .tc .vmem S256x1 .i32) (harg12 : arg12.IsWhole) (arg13 : Memref sig .tc .vmem S1024x4096 .f32) (harg13 : arg13.IsWhole) (arg14 : Memref sig .tc .vmem S1024x1 .f32) (harg14 : arg14.IsWhole)
    (h1 : ¬ early i) (h4 : k0_cond4 i = 1#1) (x2 : Vec F S1x4096 .f32) (x3 : Vec F S1x4096 .f32) (x4 : Vec F S1x4096 .f32) (x6 : Vec F S1x1 .f32) (x7 : Vec F S256x1 .f32) (xa : Vec F S1024x4096 .f32) (xg : Vec F S1024x1 .f32)  (K : PUnit → sProp 𝕄) :
    iprop(owns (c : Thread nD τ) arg3 fullShare x2 ∗ owns (c : Thread nD τ) arg4 fullShare x3 ∗ owns (c : Thread nD τ) arg5 fullShare x4 ∗ owns (c : Thread nD τ) arg7 fullShare x6 ∗ owns (c : Thread nD τ) arg8 fullShare x7 ∗ owns (c : Thread nD τ) arg13 fullShare xa ∗ owns (c : Thread nD τ) arg14 fullShare xg ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x2 ∗ owns (c : Thread nD τ) arg4 fullShare x3 ∗ owns (c : Thread nD τ) arg5 fullShare x4 ∗ owns (c : Thread nD τ) arg7 fullShare x6 ∗ owns (c : Thread nD τ) arg8 fullShare x7 ∗ owns (c : Thread nD τ) arg13 fullShare xa ∗ owns (c : Thread nD τ) arg14 fullShare xg ∗ owns (c : Thread nD τ) arg9 fullShare (topOut i h4 x2 x3 x4 x6 x7 xa xg) ∗ owns (c : Thread nD τ) arg10 fullShare (ptrOut i h4 x6 x7 xg) ∗ owns (c : Thread nD τ) arg11 fullShare (wslotOut i h4 x6 x7 xg) ∗ owns (c : Thread nD τ) arg12 fullShare (gslotOut i h4 x6 x7 xg)) -∗ K ⟨⟩))
      ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rTop _)
  isplitl [H8]
  · iexists _; isplitr
    swap; · iexact H8
    ipureintro
    exact View.read_writes_eq_canon _ _ _ (cover_rCol _)
  isplitl [H9]
  · iexists _; isplitr
    swap; · iexact H9
    ipureintro
    exact View.read_writes_eq_canon _ _ _ (cover_rColI _)
  iexists _; isplitr
  swap; · iexact H10
  ipureintro
  exact View.read_writes_eq_canon _ _ _ (cover_rColI _)

/-! ## The second kernel's body -/

set_option maxHeartbeats 1000000 in
/-- The second kernel at any point: the updated stack block and the block of top items. -/
theorem sound_stack (c : Dev nD) (E : Set ℕ) (i : grid1.Coords) (arg1 : Memref sig .tc .vmem S64x8x4096 .f32) (harg1 : arg1.IsWhole) (arg2 : Memref sig .tc .vmem S64x4096 .f32) (harg2 : arg2.IsWhole) (arg3 : Memref sig .tc .vmem S64x1 .i32) (harg3 : arg3.IsWhole) (arg4 : Memref sig .tc .vmem S64x1 .i32) (harg4 : arg4.IsWhole) (arg5 : Memref sig .tc .vmem S64x8x4096 .f32) (harg5 : arg5.IsWhole) (arg6 : Memref sig .tc .vmem S64x4096 .f32) (harg6 : arg6.IsWhole)
     (x0 : Vec F S64x8x4096 .f32) (x1 : Vec F S64x4096 .f32) (x2 : Vec F S64x1 .i32) (x3 : Vec F S64x1 .i32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (stkOut x0 x1 x2) ∗ owns (c : Thread nD τ) arg6 fullShare (itemOut x0 x1 x3)) -∗ K ⟨⟩))
      ⊢ wp frame (wpE (defs₀ (F := F)) Variants.none c none) E (cc1__k2_body i arg1 harg1 arg2 harg2 arg3 harg3 arg4 harg4 arg5 harg5 arg6 harg6) K := by
  simp only [cc1__k2_body_eq_skeleton]; unfold cc1__k2_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_rStk _)
  iexists _; isplitr
  swap; · iexact H5
  ipureintro
  exact View.read_writes_eq_canon _ _ _ (cover_rTop1 _)

end Cert.KernelIdeal.Run

end
-- ==== Proof.IData.lean ====
/-
  The proof data of the two pipelines: what every staging buffer holds after each grid point, the accumulators between
  points, and the two body obligations.
-/
module

public import proofs.«01_k».proof.Proof.IBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which kind each point is -/

theorem point_first : ∀ t : Fin cfg0.N, t.val = 0 →
    early (grid0.coords t) ∧ first (grid0.coords t) ∧ ¬ later (grid0.coords t) ∧ ¬ k0_cond4 (grid0.coords t) = 1#1 :=
  (by decide +kernel : ∀ t : Fin grid0.N, t.val = 0 →
    early (grid0.coords t) ∧ first (grid0.coords t) ∧ ¬ later (grid0.coords t) ∧ ¬ k0_cond4 (grid0.coords t) = 1#1)
theorem point_later : ∀ t : Fin cfg0.N, 0 < t.val → t.val < 8 →
    early (grid0.coords t) ∧ ¬ first (grid0.coords t) ∧ later (grid0.coords t) ∧ ¬ k0_cond4 (grid0.coords t) = 1#1 :=
  (by decide +kernel : ∀ t : Fin grid0.N, 0 < t.val → t.val < 8 →
    early (grid0.coords t) ∧ ¬ first (grid0.coords t) ∧ later (grid0.coords t) ∧ ¬ k0_cond4 (grid0.coords t) = 1#1)
theorem point_late : ∀ t : Fin cfg0.N, 8 ≤ t.val → ¬ early (grid0.coords t) ∧ k0_cond4 (grid0.coords t) = 1#1 :=
  (by decide +kernel : ∀ t : Fin grid0.N, 8 ≤ t.val → ¬ early (grid0.coords t) ∧ k0_cond4 (grid0.coords t) = 1#1)
/-- Before point 8 no output block is written back; -/
theorem flush_early : ∀ t : Fin cfg0.N, t.val < 8 →
    (cfg0.win 8).flush t = false ∧ (cfg0.win 9).flush t = false ∧ (cfg0.win 10).flush t = false ∧ (cfg0.win 11).flush t = false :=
  (by decide +kernel : ∀ t : Fin grid0.N, t.val < 8 →
    win0_8.flush t = false ∧ win0_9.flush t = false ∧ win0_10.flush t = false ∧ win0_11.flush t = false)
/-- from point 8 on every one is. -/
theorem flush_late : ∀ t : Fin cfg0.N, 8 ≤ t.val →
    (cfg0.win 8).flush t = true ∧ (cfg0.win 9).flush t = true ∧ (cfg0.win 10).flush t = true ∧ (cfg0.win 11).flush t = true :=
  (by decide +kernel : ∀ t : Fin grid0.N, 8 ≤ t.val →
    win0_8.flush t = true ∧ win0_9.flush t = true ∧ win0_10.flush t = true ∧ win0_11.flush t = true)
theorem idle_of_not {i : grid0.Coords} (h : ¬ k0_cond4 i = 1#1) : (!(k0_cond4 i == 1#1)) = true := by
  simp only [beq_iff_eq, h, Bool.not_eq_true', beq_eq_false_iff_ne, ne_eq, not_false_eq_true]
theorem live_of {i : grid0.Coords} (h : k0_cond4 i = 1#1) : (!(k0_cond4 i == 1#1)) = false := by rw [h]; rfl

/-! ## The blocks, the accumulators -/

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point `n` of the first grid (its last point from there on). -/
def pt0 (n : ℕ) : Fin cfg0.N := ⟨min n 11, Nat.lt_of_le_of_lt (Nat.min_le_right n 11) (by rw [show cfg0.N = 12 from N_0]; decide)⟩
theorem pt0_val (t : Fin cfg0.N) : pt0 t.val = t := Fin.ext (Nat.min_eq_left (by have : t.val < 12 := lt_of_lt_of_eq t.isLt N_0; omega))

/-- What the accumulator holds after point `n`; -/
def accAt (c : Dev nD) : ℕ → Vec F S1024x4096 .f32
  | 0 => acc0 (blk0 V c 0 (pt0 0)) (blk0 V c 1 (pt0 0))
  | n + 1 => if n + 1 < 8 then accS (blk0 V c 0 (pt0 (n + 1))) (blk0 V c 1 (pt0 (n + 1))) (accAt c n) else accAt c n
/-- and the gate's. -/
def gaccAt (c : Dev nD) : ℕ → Vec F S1024x1 .f32
  | 0 => gacc0 (blk0 V c 0 (pt0 0)) (blk0 V c 5 (pt0 0))
  | n + 1 => if n + 1 < 8 then gaccS (blk0 V c 0 (pt0 (n + 1))) (blk0 V c 5 (pt0 (n + 1))) (gaccAt c n) else gaccAt c n

theorem accAt_later (c : Dev nD) (t : Fin cfg0.N) (h0 : 0 < t.val) (h8 : t.val < 8) :
    accAt V c t.val = accS (blk0 V c 0 t) (blk0 V c 1 t) (accAt V c (t.val - 1)) := by
  obtain ⟨n, hn⟩ : ∃ n, t.val = n + 1 := ⟨t.val - 1, by omega⟩
  have := pt0_val t
  rw [hn] at this h8 ⊢
  rw [accAt, if_pos h8, this]; rfl
theorem gaccAt_later (c : Dev nD) (t : Fin cfg0.N) (h0 : 0 < t.val) (h8 : t.val < 8) :
    gaccAt V c t.val = gaccS (blk0 V c 0 t) (blk0 V c 5 t) (gaccAt V c (t.val - 1)) := by
  obtain ⟨n, hn⟩ : ∃ n, t.val = n + 1 := ⟨t.val - 1, by omega⟩
  have := pt0_val t
  rw [hn] at this h8 ⊢
  rw [gaccAt, if_pos h8, this]; rfl
theorem accAt_first (c : Dev nD) (t : Fin cfg0.N) (h0 : t.val = 0) : accAt V c t.val = acc0 (blk0 V c 0 t) (blk0 V c 1 t) := by
  have := pt0_val t
  rw [h0] at this ⊢
  rw [accAt, this]
theorem gaccAt_first (c : Dev nD) (t : Fin cfg0.N) (h0 : t.val = 0) : gaccAt V c t.val = gacc0 (blk0 V c 0 t) (blk0 V c 5 t) := by
  have := pt0_val t
  rw [h0] at this ⊢
  rw [gaccAt, this]
/-- From point 7 on the accumulators stay. -/
theorem accAt_late (c : Dev nD) (k : ℕ) : accAt V c (7 + k) = accAt V c 7 := by
  induction k with
  | zero => rfl
  | succ k ih => rw [show 7 + (k + 1) = (7 + k) + 1 from rfl, accAt, if_neg (by omega), ih]
theorem gaccAt_late (c : Dev nD) (k : ℕ) : gaccAt V c (7 + k) = gaccAt V c 7 := by
  induction k with
  | zero => rfl
  | succ k ih => rw [show 7 + (k + 1) = (7 + k) + 1 from rfl, gaccAt, if_neg (by omega), ih]
theorem accAt_ge (c : Dev nD) {n : ℕ} (h : 7 ≤ n) : accAt V c n = accAt V c 7 := by
  rw [show n = 7 + (n - 7) by omega]; exact accAt_late V c _
theorem gaccAt_ge (c : Dev nD) {n : ℕ} (h : 7 ≤ n) : gaccAt V c n = gaccAt V c 7 := by
  rw [show n = 7 + (n - 7) by omega]; exact gaccAt_late V c _

/-! ## What the output windows hold after a late point -/

def topAt (c : Dev nD) (t : Fin cfg0.N) : Vec F S256x4096 .f32 :=
  if h : k0_cond4 (grid0.coords t) = 1#1 then
    topOut (grid0.coords t) h (blk0 V c 2 t) (blk0 V c 3 t) (blk0 V c 4 t) (blk0 V c 6 t) (blk0 V c 7 t) (accAt V c 7) (gaccAt V c 7)
  else fun _ => FloatOps.ofBits .f32 0x00000000#32
def ptrAt (c : Dev nD) (t : Fin cfg0.N) : Vec F S256x1 .f32 :=
  if h : k0_cond4 (grid0.coords t) = 1#1 then ptrOut (grid0.coords t) h (blk0 V c 6 t) (blk0 V c 7 t) (gaccAt V c 7)
  else fun _ => FloatOps.ofBits .f32 0x00000000#32
def wslotAt (c : Dev nD) (t : Fin cfg0.N) : Vec F S256x1 .i32 :=
  if h : k0_cond4 (grid0.coords t) = 1#1 then wslotOut (grid0.coords t) h (blk0 V c 6 t) (blk0 V c 7 t) (gaccAt V c 7)
  else fun _ => 0#32
def gslotAt (c : Dev nD) (t : Fin cfg0.N) : Vec F S256x1 .i32 :=
  if h : k0_cond4 (grid0.coords t) = 1#1 then gslotOut (grid0.coords t) h (blk0 V c 6 t) (blk0 V c 7 t) (gaccAt V c 7)
  else fun _ => 0#32

theorem topAt_late (c : Dev nD) (t : Fin cfg0.N) (h : k0_cond4 (grid0.coords t) = 1#1) : topAt V c t =
    topOut (grid0.coords t) h (blk0 V c 2 t) (blk0 V c 3 t) (blk0 V c 4 t) (blk0 V c 6 t) (blk0 V c 7 t) (accAt V c 7) (gaccAt V c 7) := dif_pos h
theorem ptrAt_late (c : Dev nD) (t : Fin cfg0.N) (h : k0_cond4 (grid0.coords t) = 1#1) :
    ptrAt V c t = ptrOut (grid0.coords t) h (blk0 V c 6 t) (blk0 V c 7 t) (gaccAt V c 7) := dif_pos h
theorem wslotAt_late (c : Dev nD) (t : Fin cfg0.N) (h : k0_cond4 (grid0.coords t) = 1#1) :
    wslotAt V c t = wslotOut (grid0.coords t) h (blk0 V c 6 t) (blk0 V c 7 t) (gaccAt V c 7) := dif_pos h
theorem gslotAt_late (c : Dev nD) (t : Fin cfg0.N) (h : k0_cond4 (grid0.coords t) = 1#1) :
    gslotAt V c t = gslotOut (grid0.coords t) h (blk0 V c 6 t) (blk0 V c 7 t) (gaccAt V c 7) := dif_pos h

/-! ## The proof data -/

/-- The scoped buffers neither pipeline 0 nor its accumulators hold: what gives the whole back when the accumulators are
    put beside it. -/
abbrev restK (c : Dev nD) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    -∗ Pipeline.scopedRest (Ix := Unit) (Name := ℕ) (U := UR sig nD τ) (Lvl := ℕ) (Val := Elt F) spec0 c)

/-- Before point `n` the accumulators are at what point `n - 1` left (at anything before point 0). -/
def inv0 (c : Dev nD) (n : ℕ) : sProp 𝕄 :=
  iprop((∃ xa : Vec F S1024x4096 .f32, ⌜0 < n → xa = accAt V c (n - 1)⌝ ∗ owns (c : Thread nD τ) (Memref.whole cc0_scratch0) fullShare xa)
    ∗ (∃ xg : Vec F S1024x1 .f32, ⌜0 < n → xg = gaccAt V c (n - 1)⌝ ∗ owns (c : Thread nD τ) (Memref.whole cc0_scratch1) fullShare xg)
    ∗ restK c)

def dat0 (c : Dev nD) : Dat τ (Elt F) Unit ℕ (UR sig nD τ) ℕ cfg0 c where
  A w := V c (Pipeline.arrRef spec0 w)
  after w t := match w with

    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => topAt V c t
    | ⟨9, _⟩ => ptrAt V c t
    | ⟨10, _⟩ => wslotAt V c t
    | ⟨11, _⟩ => gslotAt V c t
  Φ n := inv0 V c n.val
  q _ := fullShare
  owed _ := 0

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => stkOut (blk1 V c 0 t) (blk1 V c 1 t) (blk1 V c 2 t)
    | ⟨5, _⟩ => itemOut (blk1 V c 0 t) (blk1 V c 1 t) (blk1 V c 3 t)
  Φ _ := Pipeline.scopedRest (Ix := Unit) (Name := ℕ) (U := UR sig nD τ) (Lvl := ℕ) (Val := Elt F) spec1 c
  q _ := fullShare
  owed _ := 0

theorem A0_eq (c : Dev nD) (w : Fin cfg0.W) : (dat0 V c).A w = V c (Pipeline.arrRef spec0 w) := by dsimp only [dat0]
theorem A1_eq (c : Dev nD) (w : Fin cfg1.W) : (dat1 V c).A w = V c (Pipeline.arrRef spec1 w) := by dsimp only [dat1]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = topAt V c t := by dsimp only [dat0]
theorem after0_9 (c : Dev nD) (t : Fin cfg0.N) : (dat0 V c).after 9 t = ptrAt V c t := by dsimp only [dat0]
theorem after0_10 (c : Dev nD) (t : Fin cfg0.N) : (dat0 V c).after 10 t = wslotAt V c t := by dsimp only [dat0]
theorem after0_11 (c : Dev nD) (t : Fin cfg0.N) : (dat0 V c).after 11 t = gslotAt V c t := by dsimp only [dat0]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = stkOut (blk1 V c 0 t) (blk1 V c 1 t) (blk1 V c 2 t) := by dsimp only [dat1]
theorem after1_5 (c : Dev nD) (t : Fin cfg1.N) : (dat1 V c).after 5 t = itemOut (blk1 V c 0 t) (blk1 V c 1 t) (blk1 V c 3 t) := by dsimp only [dat1]

/-! An input window's staging buffer holds its block at every point. -/

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem before0_6 (c : Dev nD) (t : Fin cfg0.N) (d) : (dat0 V c).before 6 t d = blk0 V c 6 t :=
  ((dat0 V c).before_in_eq_fetched 6 rfl (fun _ => rfl) (fun _ _ _ => rfl) (fun t => by rw [after0_6]; unfold Dat.blockOf blk0; rw [A0_eq]; try rfl) t d).trans
    (by unfold Dat.fetched Dat.blockOf blk0; rw [A0_eq]; try rfl)
theorem before0_7 (c : Dev nD) (t : Fin cfg0.N) (d) : (dat0 V c).before 7 t d = blk0 V c 7 t :=
  ((dat0 V c).before_in_eq_fetched 7 rfl (fun _ => rfl) (fun _ _ _ => rfl) (fun t => by rw [after0_7]; unfold Dat.blockOf blk0; rw [A0_eq]; try rfl) t d).trans
    (by unfold Dat.fetched Dat.blockOf blk0; rw [A0_eq]; try rfl)
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)

/-! ## The body obligations -/

theorem row0 (t : Fin cfg0.N) : defs₀ (F := F) .tc cfg0.body (cfg0.bodyArgs t (cfg0.slots t)) = bodyAt0 t := by
  unfold defs₀; rw [Defs.onTc_tc]
theorem row1 (t : Fin cfg1.N) : defs₀ (F := F) .tc cfg1.body (cfg1.bodyArgs t (cfg1.slots t)) = bodyAt1 t := by
  unfold defs₀; rw [Defs.onTc_tc]

/-- A window live at the point is left at what the body leaves. -/
theorem leaves_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

def bodyPre0 (c : Dev nD) (t : Fin cfg0.N) : sProp 𝕄 :=
  iprop((dat0 V c).Φ t.castSucc
    ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))
def bodyPost0 (c : Dev nD) (t : Fin cfg0.N) : sProp 𝕄 :=
  iprop((dat0 V c).Φ t.succ
    ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t
    ∗ (dat0 V c).leavesExact 9 t
    ∗ (dat0 V c).leavesExact 10 t
    ∗ (dat0 V c).leavesExact 11 t)

def bodyPre1 (c : Dev nD) (t : Fin cfg1.N) : sProp 𝕄 :=
  iprop((dat1 V c).Φ t.castSucc
    ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
def bodyPost1 (c : Dev nD) (t : Fin cfg1.N) : sProp 𝕄 :=
  iprop((dat1 V c).Φ t.succ
    ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_stack c Set.univ (grid1.coords t) _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1, row1]
  exact triple_restated (sound_body1 V c t) rfl .rfl fun _ => .rfl

theorem sound_body0_first (c : Dev nD) (t : Fin cfg0.N) (h0 : t.val = 0) :
    bodyPre0 V c t ⊢ wp frame (wpE (defs₀ (F := F)) Variants.none c none) Set.univ (bodyAt0 t) (fun _ => bodyPost0 V c t) := by
  obtain ⟨h1, h2, h3, h4⟩ := point_first t h0
  have hf := flush_early t (by omega)
  unfold bodyPre0 bodyPost0 bodyAt0
  rw [show (dat0 V c).Φ t.castSucc = inv0 V c t.val from rfl, show (dat0 V c).Φ t.succ = inv0 V c (t.val + 1) from rfl,
    show (dat0 V c).owesAt () t.succ = (dat0 V c).owesAt () t.castSucc from rfl,
    (dat0 V c).leavesExact_idle 8 t (idle_of_not h4) hf.1,
    (dat0 V c).leavesExact_idle 9 t (idle_of_not h4) hf.2.1,
    (dat0 V c).leavesExact_idle 10 t (idle_of_not h4) hf.2.2.1,
    (dat0 V c).leavesExact_idle 11 t (idle_of_not h4) hf.2.2.2]
  simp only [before0_0, before0_1, before0_2, before0_3, before0_4, before0_5, before0_6, before0_7]
  rw [after0_0, after0_1, after0_2, after0_3, after0_4, after0_5, after0_6, after0_7]
  unfold inv0
  iintro ⟨⟨⟨%xa, %hxa, Ha⟩, ⟨%xg, %hxg, Hg⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_first c Set.univ (grid0.coords t) _ _ _ _ _ _ _ _ _ _ _ _ _ _ _ _ _ _ _ _ _ _ _ _ _ _ _ _ h1 h2 h3 h4 (blk0 V c 0 t) (blk0 V c 1 t) (blk0 V c 5 t) _)
  isplitl [H0]; · iexact H0
  isplitl [H1]; · iexact H1
  isplitl [H5]; · iexact H5
  isplitl [Ha]; · iexists _; iexact Ha
  isplitl [Hg]; · iexists _; iexact Hg
  iintro ⟨H0, H1, H5, Ha, Hg⟩
  isplitl [Ha Hg Hr]
  · isplitl [Ha]
    · iexists _; isplitr
      swap; · iexact Ha
      ipureintro; exact fun _ => (accAt_first V c t h0).symm
    isplitl [Hg]
    · iexists _; isplitr
      swap; · iexact Hg
      ipureintro; exact fun _ => (gaccAt_first V c t h0).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  iexists d11; iexact H11

theorem sound_body0_later (c : Dev nD) (t : Fin cfg0.N) (h0 : 0 < t.val) (h8 : t.val < 8) :
    bodyPre0 V c t ⊢ wp frame (wpE (defs₀ (F := F)) Variants.none c none) Set.univ (bodyAt0 t) (fun _ => bodyPost0 V c t) := by
  obtain ⟨h1, h2, h3, h4⟩ := point_later t h0 h8
  have hf := flush_early t h8
  unfold bodyPre0 bodyPost0 bodyAt0
  rw [show (dat0 V c).Φ t.castSucc = inv0 V c t.val from rfl, show (dat0 V c).Φ t.succ = inv0 V c (t.val + 1) from rfl,
    show (dat0 V c).owesAt () t.succ = (dat0 V c).owesAt () t.castSucc from rfl,
    (dat0 V c).leavesExact_idle 8 t (idle_of_not h4) hf.1,
    (dat0 V c).leavesExact_idle 9 t (idle_of_not h4) hf.2.1,
    (dat0 V c).leavesExact_idle 10 t (idle_of_not h4) hf.2.2.1,
    (dat0 V c).leavesExact_idle 11 t (idle_of_not h4) hf.2.2.2]
  simp only [before0_0, before0_1, before0_2, before0_3, before0_4, before0_5, before0_6, before0_7]
  rw [after0_0, after0_1, after0_2, after0_3, after0_4, after0_5, after0_6, after0_7]
  unfold inv0
  iintro ⟨⟨⟨%xa, %hxa, Ha⟩, ⟨%xg, %hxg, Hg⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := hxa h0
  obtain rfl := hxg h0
  iapply (sound_later c Set.univ (grid0.coords t) _ _ _ _ _ _ _ _ _ _ _ _ _ _ _ _ _ _ _ _ _ _ _ _ _ _ _ _ h1 h2 h3 h4 (blk0 V c 0 t) (blk0 V c 1 t) (blk0 V c 5 t) (accAt V c (t.val - 1)) (gaccAt V c (t.val - 1)) _)
  isplitl [H0]; · iexact H0
  isplitl [H1]; · iexact H1
  isplitl [H5]; · iexact H5
  isplitl [Ha]; · iexact Ha
  isplitl [Hg]; · iexact Hg
  iintro ⟨H0, H1, H5, Ha, Hg⟩
  isplitl [Ha Hg Hr]
  · isplitl [Ha]
    · iexists _; isplitr
      swap; · iexact Ha
      ipureintro; exact fun _ => (accAt_later V c t h0 h8).symm
    isplitl [Hg]
    · iexists _; isplitr
      swap; · iexact Hg
      ipureintro; exact fun _ => (gaccAt_later V c t h0 h8).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  iexists d11; iexact H11

theorem sound_body0_late (c : Dev nD) (t : Fin cfg0.N) (h8 : 8 ≤ t.val) :
    bodyPre0 V c t ⊢ wp frame (wpE (defs₀ (F := F)) Variants.none c none) Set.univ (bodyAt0 t) (fun _ => bodyPost0 V c t) := by
  obtain ⟨h1, h4⟩ := point_late t h8
  have hA := accAt_ge V c (n := t.val - 1) (by omega)
  have hG := gaccAt_ge V c (n := t.val - 1) (by omega)
  have hA' := accAt_ge V c (n := t.val) (by omega)
  have hG' := gaccAt_ge V c (n := t.val) (by omega)
  unfold bodyPre0 bodyPost0 bodyAt0
  rw [show (dat0 V c).Φ t.castSucc = inv0 V c t.val from rfl, show (dat0 V c).Φ t.succ = inv0 V c (t.val + 1) from rfl,
    show (dat0 V c).owesAt () t.succ = (dat0 V c).owesAt () t.castSucc from rfl,
    leaves_live (dat0 V c) 8 t (live_of h4), after0_8, topAt_late V c t h4,
    leaves_live (dat0 V c) 9 t (live_of h4), after0_9, ptrAt_late V c t h4,
    leaves_live (dat0 V c) 10 t (live_of h4), after0_10, wslotAt_late V c t h4,
    leaves_live (dat0 V c) 11 t (live_of h4), after0_11, gslotAt_late V c t h4]
  simp only [before0_0, before0_1, before0_2, before0_3, before0_4, before0_5, before0_6, before0_7]
  rw [after0_0, after0_1, after0_2, after0_3, after0_4, after0_5, after0_6, after0_7]
  unfold inv0
  iintro ⟨⟨⟨%xa, %hxa, Ha⟩, ⟨%xg, %hxg, Hg⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := (hxa (by omega)).trans hA
  obtain rfl := (hxg (by omega)).trans hG
  iapply (sound_late c Set.univ (grid0.coords t) _ _ _ _ _ _ _ _ _ _ _ _ _ _ _ _ _ _ _ _ _ _ _ _ _ _ _ _ h1 h4 (blk0 V c 2 t) (blk0 V c 3 t) (blk0 V c 4 t) (blk0 V c 6 t) (blk0 V c 7 t) (accAt V c 7) (gaccAt V c 7) _)
  isplitl [H2]; · iexact H2
  isplitl [H3]; · iexact H3
  isplitl [H4]; · iexact H4
  isplitl [H6]; · iexact H6
  isplitl [H7]; · iexact H7
  isplitl [Ha]; · iexact Ha
  isplitl [Hg]; · iexact Hg
  isplitl [H8]; · iexists _; iexact H8
  isplitl [H9]; · iexists _; iexact H9
  isplitl [H10]; · iexists _; iexact H10
  isplitl [H11]; · iexists _; iexact H11
  iintro ⟨H2, H3, H4, H6, H7, Ha, Hg, H8, H9, H10, H11⟩
  isplitl [Ha Hg Hr]
  · isplitl [Ha]
    · iexists _; isplitr
      swap; · iexact Ha
      ipureintro; exact fun _ => hA'.symm
    isplitl [Hg]
    · iexists _; isplitr
      swap; · iexact Hg
      ipureintro; exact fun _ => hG'.symm
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation0 (c : Dev nD) : BodyObligation (dat0 (F := F) V c) (defs₀ (F := F)) Variants.none () Set.univ := fun t => by
  rw [bigSep_W0, bigSep_W0, row0]
  rcases Nat.eq_zero_or_pos t.val with h0 | h0
  · exact triple_restated (sound_body0_first V c t h0) rfl .rfl fun _ => .rfl
  rcases Nat.lt_or_ge t.val 8 with h8 | h8
  · exact triple_restated (sound_body0_later V c t h0 h8) rfl .rfl fun _ => .rfl
  · exact triple_restated (sound_body0_late V c t h8) rfl .rfl fun _ => .rfl

end Cert.KernelIdeal.Run

end
-- ==== Proof.IRun.lean ====
/-
  The whole program's run: the four reshapes, the two regions one after the other, and what every unscoped buffer holds at
  the end.
-/
module

public import proofs.«01_k».proof.Proof.IData
public import proofs.«01_k».proof.Proof.Gen.KernelIdeal.Regions
public import Idealize.ShloMosaic.Lib.Pipeline.FrameTail

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- A valuation read at the TensorCore's references. -/
abbrev tcOf (W : Dev nD → Valuation τ sig (Elt F)) (c : Dev nD) (b : Ref sig .tc) : Buf (Elt F) ((c : Thread nD τ).loc b) := W c (Proc.devRef .tc b)

/-- After the reshapes; -/
abbrev W1 (c : Dev nD) : Valuation τ sig (Elt F) := V1 m c
/-- after the first region; -/
def W2 (c : Dev nD) : Valuation τ sig (Elt F) := Pipeline.afterRegion (dat0 (tcOf (W1 m)) c) (W1 m c)
/-- and after the second. -/
def W3 (c : Dev nD) : Valuation τ sig (Elt F) := Pipeline.afterRegion (dat1 (tcOf (W2 m)) c) (W2 m c)

/-- Both regions' proof data. -/
def pdats : (p : Fin 2) → (c : Dev nD) → Dat τ (Elt F) Unit ℕ (UR sig nD τ) ℕ (Pipeline.pin (pcfgs (F := F)) adm p) c
  | ⟨0, _⟩ => fun c => dat0 (tcOf (W1 m)) c
  | ⟨1, _⟩ => fun c => dat1 (tcOf (W2 m)) c

abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

/-! ## The regions -/

/-- Region 0's invariant before its first point, from the scoped buffers it does not stage; -/
theorem enter0 (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec0 c : sProp 𝕄) ⊢ inv0 V c 0 := by
  unfold inv0 restK
  rw [scopedRest0_eq]
  simp only [owns_whole_eq]
  iintro ⟨⟨%f0, H0⟩, ⟨%f1, H1⟩, Hr⟩
  isplitl [H0]
  · iexists f0; isplitr; · ipureintro; exact fun h => absurd h (Nat.lt_irrefl 0)
    iexists f0; isplitr; · ipureintro; rfl
    iexact H0
  isplitl [H1]
  · iexists f1; isplitr; · ipureintro; exact fun h => absurd h (Nat.lt_irrefl 0)
    iexists f1; isplitr; · ipureintro; rfl
    iexact H1
  iintro ⟨H0, H1⟩
  isplitl [H0]; · iexact H0
  isplitl [H1]; · iexact H1
  iexact Hr

/-- and those buffers back from the invariant. -/
theorem leave0 (V : (c : Dev nD) → (b : Ref sig .tc) → Buf (Elt F) ((c : Thread nD τ).loc b)) (c : Dev nD) (n : ℕ) :
    inv0 V c n ⊢ (Pipeline.scopedRest (Ix := Unit) (Name := ℕ) (U := UR sig nD τ) (Lvl := ℕ) (Val := Elt F) spec0 c : sProp 𝕄) := by
  unfold inv0
  simp only [owns_whole_eq]
  iintro ⟨⟨%xa, -, ⟨%f0, -, H0⟩⟩, ⟨%xg, -, ⟨%f1, -, H1⟩⟩, Hr⟩
  iapply Hr
  isplitl [H0]; · iexists f0; iexact H0
  iexists f1; iexact H1

-- `iapply` of a launch lemma stated over the pinned configuration unifies only when unification may unfold plain definitions in
-- a metavariable's type
set_option backward.isDefEq.respectTransparency.types false in
/-- Region 0 over the thread state: its arrays taken out of the unscoped buffers, and put back at their final contents. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (tcOf (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := Pipeline.unscopedRest (Ix := Unit) (Name := ℕ) (U := UR sig nD τ) (Lvl := ℕ) spec0 c (tcOf (W1 m) c)
  hentry c := by
    rw [Pipeline.ownSems0_none, show StableHlo.held (c : Thread nD τ) (Pipeline.ucRefs τ sig) (W1 m c) = unscopedBufs c (tcOf (W1 m) c) from
      (Pipeline.unscopedBufs_held (Ix := Unit) (Name := ℕ) (U := UR sig nD τ) (Lvl := ℕ) c (W1 m c)).symm]
    have hsplit := Pipeline.arrays_of_unscopedBufs (p := 0) (pcfgs (F := F)) adm (pdats m) launch0.win launch0.arr_whole c
      ((pdats m 0 c).share_full fun _ => rfl) (tcOf (W1 m) c) (A0_eq (tcOf (W1 m)) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = inv0 (tcOf (W1 m)) c 0 from rfl]
    iintro ⟨-, -, Hr⟩; iapply (enter0 (tcOf (W1 m)) c); iexact Hr
  hout c := by
    rw [Pipeline.ownSems0_none, show (pdats m 0 c).Φ (Fin.last _) = inv0 (tcOf (W1 m)) c (Fin.last cfg0.N).val from rfl]
    iintro Hr
    isplitr; · iempintro
    isplitr; · iempintro
    iapply (leave0 (tcOf (W1 m)) c _); iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (tcOf (W1 m) c) (tcOf (W2 m) c) ((pdats m 0 c).arrAt · cfg0.N)
      (fun w => (Pipeline.afterRegion_arr (dat0 (tcOf (W1 m)) c) (W1 m c) launch0.win.arr_inj w).symm)
      (fun b hb => Pipeline.afterRegion_of_not_arr (dat0 (tcOf (W1 m)) c) (W1 m c)
        fun w h => hb (h ▸ Finset.mem_image.mpr ⟨w, Finset.mem_univ _, rfl⟩))
    rw [show StableHlo.held (c : Thread nD τ) (Pipeline.ucRefs τ sig) (W2 m c) = unscopedBufs c (tcOf (W2 m) c) from
      (Pipeline.unscopedBufs_held (Ix := Unit) (Name := ℕ) (U := UR sig nD τ) (Lvl := ℕ) c (W2 m c)).symm]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a launch lemma stated over the pinned configuration unifies only when unification may unfold plain definitions in
-- a metavariable's type
set_option backward.isDefEq.respectTransparency.types false in
/-- Region 1 over the thread state: its arrays taken out of the unscoped buffers, and put back at their final contents. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (tcOf (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X _ := BI.emp
  Y _ := BI.emp
  Z c := Pipeline.unscopedRest (Ix := Unit) (Name := ℕ) (U := UR sig nD τ) (Lvl := ℕ) spec1 c (tcOf (W2 m) c)
  hentry c := by
    rw [Pipeline.ownSems0_none, show StableHlo.held (c : Thread nD τ) (Pipeline.ucRefs τ sig) (W2 m c) = unscopedBufs c (tcOf (W2 m) c) from
      (Pipeline.unscopedBufs_held (Ix := Unit) (Name := ℕ) (U := UR sig nD τ) (Lvl := ℕ) c (W2 m c)).symm]
    have hsplit := Pipeline.arrays_of_unscopedBufs (p := 1) (pcfgs (F := F)) adm (pdats m) launch1.win launch1.arr_whole c
      ((pdats m 1 c).share_full fun _ => rfl) (tcOf (W2 m) c) (A1_eq (tcOf (W2 m)) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (Pipeline.scopedRest (Ix := Unit) (Name := ℕ) (U := UR sig nD τ) (Lvl := ℕ) (Val := Elt F) spec1 c : sProp 𝕄) from rfl]
    iintro ⟨-, -, Hr⟩; iexact Hr
  hout c := by
    rw [Pipeline.ownSems0_none, show (pdats m 1 c).Φ (Fin.last _) = (Pipeline.scopedRest (Ix := Unit) (Name := ℕ) (U := UR sig nD τ) (Lvl := ℕ) (Val := Elt F) spec1 c : sProp 𝕄) from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (tcOf (W2 m) c) (tcOf (W3 m) c) ((pdats m 1 c).arrAt · cfg1.N)
      (fun w => (Pipeline.afterRegion_arr (dat1 (tcOf (W2 m)) c) (W2 m c) launch1.win.arr_inj w).symm)
      (fun b hb => Pipeline.afterRegion_of_not_arr (dat1 (tcOf (W2 m)) c) (W2 m c)
        fun w h => hb (h ▸ Finset.mem_image.mpr ⟨w, Finset.mem_univ _, rfl⟩))
    rw [show StableHlo.held (c : Thread nD τ) (Pipeline.ucRefs τ sig) (W3 m c) = unscopedBufs c (tcOf (W3 m) c) from
      (Pipeline.unscopedBufs_held (Ix := Unit) (Name := ℕ) (U := UR sig nD τ) (Lvl := ℕ) c (W3 m c)).symm]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

/-- The launch element: the pipeline library's, at the staging cells and the pipelines' transfers. -/
def u₀ : UR sig nD τ :=
  initOf (Pipeline.cells (Pipeline.pin (pcfgs (F := F)) adm) cellOf_inj) (Pipeline.launchToks (Pipeline.pin (pcfgs (F := F)) adm) cellOf_inj)

/-- What a run ends with: every unscoped buffer at the last valuation, every counter at zero. -/
def Ends (r : PUnit × MemSt nD τ sig (Elt F)) : Prop :=
  (∀ (c : Dev nD) (b : Ref sig .tc), b.isScoped = false → r.2.mem ((c.tc : Thread nD τ).loc b) = W3 m c (Proc.devRef .tc b))
    ∧ r.2.sem = fun _ => 0

set_option backward.isDefEq.respectTransparency.types false in
theorem run_all : θ_run defs (onTc (τ := τ) (main (F := F))) ⟨m, fun _ => 0, ρ⟩ (Ends m) := by
  refine Pipeline.θ_run_regions_kit_dev_sems (pcfgs (F := F)) adm (pdats m) () cellOf_inj (emb₁ : Emb (UR sig nD τ) 𝕄) defs₀ Variants.none L lv m ρ main
    (segs m Variants.none L lv (fun _ => R) () (pdats m) (reg0 m) (reg1 m))
    (fun c Q => by
      rewrite [main_chain c, Seg.run_eq_chain,
        show (segs m Variants.none L lv (fun _ => R) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀ (F := F))
    (hu₀ := ?_)
    (T₀ := fun c => iprop(StableHlo.held (c : Thread nD τ) (Pipeline.ucRefs τ sig) (V0 m c) ∗ R c))
    (Tₙ := fun c => StableHlo.held (c : Thread nD τ) (Pipeline.ucRefs τ sig) (W3 m c))
    (hch := fun c => ⟨.rfl, .rfl, .rfl, .rfl⟩)
    (hinit := ?_) (QY := fun c s => ∀ b : Ref sig .tc, b.isScoped = false → s.mem ((c.tc : Thread nD τ).loc b) = W3 m c (Proc.devRef .tc b))
    (hfin := fun c s' => ?_) (hQ := fun _ h hz => ⟨h, funext fun g => hz g (.inr (regions_no_unscoped g.2))⟩)
  · unfold u₀
    iintro Hu
    imodintro
    isplitl [Hu]
    · iapply (show (ownU (initOf (Pipeline.cells (Pipeline.pin (pcfgs (F := F)) adm) cellOf_inj) (Pipeline.launchToks (Pipeline.pin (pcfgs (F := F)) adm) cellOf_inj)) : sProp 𝕄)
        ⊢ BI.own ((emb₁ : Emb (UR sig nD τ) 𝕄) (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun hs => Bool.false_ne_true (hb.symm.trans hs)⟩)
    · iexact HSI

/-! ## What the last valuation holds -/

theorem W3_out (c : Dev nD) (w : Fin cfg1.W) : W3 m c (Proc.devRef .tc (Pipeline.arrRef spec1 w)) = (dat1 (tcOf (W2 m)) c).arrAt w cfg1.N :=
  Pipeline.afterRegion_arr (dat1 (tcOf (W2 m)) c) (W2 m c) launch1.win.arr_inj w
theorem W2_out (c : Dev nD) (w : Fin cfg0.W) : W2 m c (Proc.devRef .tc (Pipeline.arrRef spec0 w)) = (dat0 (tcOf (W1 m)) c).arrAt w cfg0.N :=
  Pipeline.afterRegion_arr (dat0 (tcOf (W1 m)) c) (W1 m c) launch0.win.arr_inj w
theorem W3_off (c : Dev nD) {b : Ref sig .tc} (hb : ∀ w, b ≠ Pipeline.arrRef spec1 w) : W3 m c (Proc.devRef .tc b) = W2 m c (Proc.devRef .tc b) :=
  Pipeline.afterRegion_of_not_arr (dat1 (tcOf (W2 m)) c) (W2 m c) hb
theorem W2_off (c : Dev nD) {b : Ref sig .tc} (hb : ∀ w, b ≠ Pipeline.arrRef spec0 w) : W2 m c (Proc.devRef .tc b) = W1 m c (Proc.devRef .tc b) :=
  Pipeline.afterRegion_of_not_arr (dat0 (tcOf (W1 m)) c) (W1 m c) hb
theorem W2_in (c : Dev nD) (w : Fin cfg0.W) (h : (cfg0.win w).isOut = false) :
    W2 m c (Proc.devRef .tc (Pipeline.arrRef spec0 w)) = W1 m c (Proc.devRef .tc (Pipeline.arrRef spec0 w)) :=
  (W2_out m c w).trans (((dat0 (tcOf (W1 m)) c).arrAt_in w h _).trans (A0_eq (tcOf (W1 m)) c w))
theorem W3_in (c : Dev nD) (w : Fin cfg1.W) (h : (cfg1.win w).isOut = false) :
    W3 m c (Proc.devRef .tc (Pipeline.arrRef spec1 w)) = W2 m c (Proc.devRef .tc (Pipeline.arrRef spec1 w)) :=
  (W3_out m c w).trans (((dat1 (tcOf (W2 m)) c).arrAt_in w h _).trans (A1_eq (tcOf (W2 m)) c w))

theorem W3_arg0 (c : Dev nD) : W3 m c (Proc.devRef .tc main_arg0) = m ((c : Thread nD τ).loc main_arg0) :=
  (W3_off m c (b := main_arg0) (by decide)).trans ((W2_in m c 0 rfl).trans (V1_of m c main_arg0 (by decide)))
theorem W3_arg1 (c : Dev nD) : W3 m c (Proc.devRef .tc main_arg1) = m ((c : Thread nD τ).loc main_arg1) :=
  (W3_in m c 0 rfl).trans ((W2_off m c (b := main_arg1) (by decide)).trans (V1_of m c main_arg1 (by decide)))
theorem W3_arg2 (c : Dev nD) : W3 m c (Proc.devRef .tc main_arg2) = m ((c : Thread nD τ).loc main_arg2) :=
  (W3_off m c (b := main_arg2) (by decide)).trans ((W2_in m c 7 rfl).trans (V1_of m c main_arg2 (by decide)))
theorem W3_arg3 (c : Dev nD) : W3 m c (Proc.devRef .tc main_arg3) = m ((c : Thread nD τ).loc main_arg3) :=
  (W3_off m c (b := main_arg3) (by decide)).trans ((W2_in m c 1 rfl).trans (V1_of m c main_arg3 (by decide)))
theorem W3_arg4 (c : Dev nD) : W3 m c (Proc.devRef .tc main_arg4) = m ((c : Thread nD τ).loc main_arg4) :=
  (W3_off m c (b := main_arg4) (by decide)).trans ((W2_off m c (b := main_arg4) (by decide)).trans (V1_of m c main_arg4 (by decide)))
theorem W3_arg5 (c : Dev nD) : W3 m c (Proc.devRef .tc main_arg5) = m ((c : Thread nD τ).loc main_arg5) :=
  (W3_off m c (b := main_arg5) (by decide)).trans ((W2_in m c 5 rfl).trans (V1_of m c main_arg5 (by decide)))
theorem W3_arg6 (c : Dev nD) : W3 m c (Proc.devRef .tc main_arg6) = m ((c : Thread nD τ).loc main_arg6) :=
  (W3_off m c (b := main_arg6) (by decide)).trans ((W2_off m c (b := main_arg6) (by decide)).trans (V1_of m c main_arg6 (by decide)))
theorem W3_arg7 (c : Dev nD) : W3 m c (Proc.devRef .tc main_arg7) = m ((c : Thread nD τ).loc main_arg7) :=
  (W3_off m c (b := main_arg7) (by decide)).trans ((W2_off m c (b := main_arg7) (by decide)).trans (V1_of m c main_arg7 (by decide)))
theorem W3_arg8 (c : Dev nD) : W3 m c (Proc.devRef .tc main_arg8) = m ((c : Thread nD τ).loc main_arg8) :=
  (W3_off m c (b := main_arg8) (by decide)).trans ((W2_off m c (b := main_arg8) (by decide)).trans (V1_of m c main_arg8 (by decide)))

/-- Every argument ends as it began. -/
theorem Ends.args {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.1 c main_arg0 rfl).trans (W3_arg0 m c), (h.1 c main_arg1 rfl).trans (W3_arg1 m c), (h.1 c main_arg2 rfl).trans (W3_arg2 m c), (h.1 c main_arg3 rfl).trans (W3_arg3 m c), (h.1 c main_arg4 rfl).trans (W3_arg4 m c), (h.1 c main_arg5 rfl).trans (W3_arg5 m c), (h.1 c main_arg6 rfl).trans (W3_arg6 m c), (h.1 c main_arg7 rfl).trans (W3_arg7 m c), (h.1 c main_arg8 rfl).trans (W3_arg8 m c)⟩

/-- The run, from any memory with zero counters: the arguments end as they began, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (run_all m ρ).mono fun r h => ⟨fun c => Ends.args m h c, h.2⟩

end Cert.KernelIdeal.Run

end
-- ==== Proof.Frames.lean ====
/-
  The three frame claims: the kernel at its bits and over the extended reals, and the reference.
-/
module

public import proofs.«01_k».proof.Defs
public import proofs.«01_k».proof.Proof.KRun
public import proofs.«01_k».proof.Proof.IRun
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

theorem frame_kernel : Cert.quiescent_Kernel (hKernel := Cert.Kernel.Gen.facts) := fun m g _ =>
  Cert.Kernel.Run.frame_all (F := Bits) m g

theorem frame_kernelIdeal : Cert.quiescent_KernelIdeal (hKernelIdeal := Cert.KernelIdeal.Gen.facts) := fun m g _ =>
  Cert.KernelIdeal.Run.frame_all (F := Ideal) m g

theorem frame_referenceIdeal : Cert.quiescent_ReferenceIdeal (hReferenceIdeal := Cert.ReferenceIdeal.Gen.facts) := fun m g _ =>
  (Cert.ReferenceIdeal.Value.run (F := Ideal) m g).mono fun r h => ⟨fun c => (h c).2.2.2, Idealize.ShloMosaic.sem_eq_zero_of_no_sems (by decide) r⟩

/-- The precondition's side conditions. -/
theorem preFacts : Cert.Pre_pointer_at_most_depth.Facts where
  bcast_S_S1024x1 := by decide
  reducesTo_S1024x1_S_d0_1 := by decide
  h_S_ := by decide

end Cert.Proof

end
-- ==== Proof.Spec.lean ====
/-
  What one row of the batch comes to, written over the extended reals and over words: the pushed vector and its layer
  normalisation, the gate, and the decisions the pointer and the gate lead to.
-/
module

public import Idealize.ShloMosaic.Lib.Pointwise

@[expose] public section

noncomputable section

namespace Cert.Spec

open Idealize.ShloMosaic

/-- A vector of 4096 entries, layer-normalised, scaled and shifted. -/
def mean (p : Fin 4096 → EReal) : EReal := Ideal.div (∑ j, p j) (Ideal.ofBits .f32 0x45800000#32)
def var (p : Fin 4096 → EReal) : EReal :=
  Ideal.div (∑ j, (p j - mean p) * (p j - mean p)) (Ideal.ofBits .f32 0x45800000#32)
def normed (p g be : Fin 4096 → EReal) (j : Fin 4096) : EReal :=
  Ideal.div (p j - mean p) (Ideal.sqrt (var p + Ideal.ofBits .f32 0x3727C5AC#32)) * g j + be j

/-- Row `b` of a product. -/
def dotRow {n : ℕ} (h : (⟨2, ![1024, 4096]⟩ : Shape).Idx → EReal) (w : (⟨2, ![4096, n]⟩ : Shape).Idx → EReal) (b : Fin 1024) (j : Fin n) : EReal :=
  ∑ k : Fin 4096, h (ix2 b k) * w (ix2 k j)

/-! ## Decisions: the gate's bit `g`, the pointer's word `p` -/

def canPush (g : BitVec 1) (p : BitVec 32) : BitVec 1 := IntOp.andi (IntOp.xori g 1#1) (IntOp.cmpi .slt p 8#32)
def canPop (g : BitVec 1) (p : BitVec 32) : BitVec 1 := IntOp.andi g (IntOp.cmpi .sgt p 0#32)
def nextPtr (g : BitVec 1) (p : BitVec 32) : BitVec 32 :=
  Scalar.select (canPop g p) (IntOp.subi p 1#32) (Scalar.select (canPush g p) (IntOp.addi p 1#32) p)
/-- The slot written, −1 for none; -/
def wslot (g : BitVec 1) (p : BitVec 32) : BitVec 32 := Scalar.select (canPush g p) p 4294967295#32
/-- the slot read, −1 for none. -/
def gslot (g : BitVec 1) (p : BitVec 32) : BitVec 32 :=
  Scalar.select (IntOp.andi (IntOp.xori (canPush g p) 1#1) (IntOp.cmpi .sgt p 0#32)) (IntOp.subi p 1#32) 4294967295#32

/-! ## Comparisons of words as numbers -/

theorem slt_bit (x y : BitVec 32) : IntOp.cmpi .slt x y = BitVec.ofBool (decide (x.toInt < y.toInt)) := rfl
theorem sgt_bit (x y : BitVec 32) : IntOp.cmpi .sgt x y = BitVec.ofBool (decide (y.toInt < x.toInt)) := rfl
theorem sge_bit (x y : BitVec 32) : IntOp.cmpi .sge x y = BitVec.ofBool (decide (y.toInt ≤ x.toInt)) := rfl
theorem sle_bit (x y : BitVec 32) : IntOp.cmpi .sle x y = BitVec.ofBool (decide (x.toInt ≤ y.toInt)) := rfl
theorem eq_bit (x y : BitVec 32) : IntOp.cmpi .eq x y = BitVec.ofBool (decide (x = y)) := by
  show BitVec.ofBool (x == y) = _
  by_cases h : x = y
  · rw [beq_iff_eq.mpr h, decide_eq_true h]
  · rw [beq_eq_false_iff_ne.mpr h, decide_eq_false h]

theorem bit_true {p : Prop} [Decidable p] (h : p) : BitVec.ofBool (decide p) = 1#1 := by rw [decide_eq_true h]; rfl
theorem bit_false {p : Prop} [Decidable p] (h : ¬ p) : BitVec.ofBool (decide p) = 0#1 := by rw [decide_eq_false h]; rfl

/-! ## The slot read -/

/-- The pointer less one, kept between 0 and 7. -/
def prevSlot (p : BitVec 32) : BitVec 32 := IntOp.minsi 7#32 (IntOp.maxsi 0#32 (IntOp.subi p 1#32))

theorem prevSlot_val (p : BitVec 32) : (prevSlot p).toInt = min 7 (max 0 (p - 1#32).toInt) := by
  unfold prevSlot IntOp.minsi IntOp.maxsi IntOp.subi
  have h7 : (7#32 : BitVec 32).toInt = 7 := by decide
  have h0 : (0#32 : BitVec 32).toInt = 0 := by decide
  simp only [BitVec.slt_iff_toInt_lt, h7, h0]
  split_ifs <;> simp_all <;> omega

theorem prevSlot_lt (p : BitVec 32) : (prevSlot p).toInt.toNat < 8 := by rw [prevSlot_val]; omega

/-! ## The two ways of writing the decisions agree -/

theorem eq_slot_none (s : Fin 8) : IntOp.cmpi .eq (BitVec.ofNat 32 s.val) 4294967295#32 = 0#1 := by
  revert s; decide

/-- Writing at the pointer where a push is allowed is writing at the slot chosen. -/
theorem stack_agree (g : BitVec 1) (p : BitVec 32) (s : Fin 8) (A B : EReal) :
    Scalar.select (IntOp.cmpi .eq (BitVec.ofNat 32 s.val) (wslot g p)) (Scalar.select (canPush g p) A 0) B =
      Scalar.select (IntOp.andi (IntOp.cmpi .eq (BitVec.ofNat 32 s.val) p) (canPush g p)) A B := by
  unfold wslot
  generalize canPush g p = c
  rcases BitVec.eq_zero_or_eq_one c with rfl | rfl
  · rw [ValueIdx.select_zero, eq_slot_none]
    generalize IntOp.cmpi .eq _ p = e
    rcases BitVec.eq_zero_or_eq_one e with rfl | rfl <;> rfl
  · rw [ValueIdx.select_one, ValueIdx.select_one]
    generalize IntOp.cmpi .eq _ p = e
    rcases BitVec.eq_zero_or_eq_one e with rfl | rfl <;> rfl

/-- A sum over the slots in which one slot counts. -/
theorem sum_slot (q : Fin 8) (x : Fin 8 → EReal) :
    ∑ s : Fin 8, Scalar.select (IntOp.cmpi .eq (BitVec.ofNat 32 s.val) (BitVec.ofNat 32 q.val)) (x s) 0 = x q := by
  have h : ∀ s q : Fin 8, IntOp.cmpi .eq (BitVec.ofNat 32 s.val) (BitVec.ofNat 32 q.val) = if s = q then 1#1 else 0#1 := by decide
  rw [Finset.sum_eq_single q (fun s _ hs => by rw [h, if_neg hs]; rfl) (fun hq => absurd (Finset.mem_univ q) hq), h, if_pos rfl]
  rfl

/-- With the pointer at most 8, the element read by comparing slots is the one looked up, and it is read when it should be. -/
theorem item_agree (g : BitVec 1) (p : BitVec 32) (hp : p.toInt ≤ 8) (x : Fin 8 → EReal) (A : EReal) :
    Scalar.select (IntOp.cmpi .sge (gslot g p) 0#32)
        (∑ s : Fin 8, Scalar.select (IntOp.cmpi .eq (BitVec.ofNat 32 s.val) (gslot g p)) (x s) 0) (Scalar.select (canPush g p) A 0) =
      Scalar.select (canPush g p) A
        (Scalar.select (IntOp.ori (canPop g p)
            (IntOp.andi (IntOp.andi (IntOp.xori (canPop g p) 1#1) (IntOp.xori (canPush g p) 1#1)) (IntOp.cmpi .sgt p 0#32)))
          (x ⟨(prevSlot p).toInt.toNat, prevSlot_lt p⟩) 0) := by
  unfold gslot canPop
  have h0 : (0#32 : BitVec 32).toInt = 0 := by decide
  by_cases hpos : (0#32 : BitVec 32).toInt < p.toInt
  · rw [sgt_bit, bit_true hpos]
    rw [h0] at hpos
    have h1 : p.toInt = p.toNat := by rw [BitVec.toInt_eq_toNat_cond] at hpos ⊢; split_ifs at hpos ⊢ <;> omega
    have h2 : p.toNat - 1 < 8 := by omega
    have hs : p - 1#32 = BitVec.ofNat 32 (p.toNat - 1) := by
      apply BitVec.eq_of_toNat_eq
      rw [BitVec.toNat_sub, BitVec.toNat_ofNat, BitVec.toNat_ofNat]; omega
    have hn : (BitVec.ofNat 32 (p.toNat - 1)).toInt = (p.toNat - 1 : ℕ) := by
      rw [BitVec.toInt_eq_toNat_of_lt] <;> rw [BitVec.toNat_ofNat] <;> omega
    have hq : (⟨(prevSlot p).toInt.toNat, prevSlot_lt p⟩ : Fin 8) = ⟨p.toNat - 1, h2⟩ := Fin.ext (by
      show (prevSlot p).toInt.toNat = p.toNat - 1
      rw [prevSlot_val, hs, hn]; omega)
    rw [hq]
    generalize canPush g p = c
    rcases BitVec.eq_zero_or_eq_one c with rfl | rfl
    · rw [show IntOp.andi (IntOp.xori (0#1) 1#1) 1#1 = 1#1 by decide, ValueIdx.select_one, ValueIdx.select_zero]
      show Scalar.select (IntOp.cmpi .sge (p - 1#32) 0#32) (∑ s : Fin 8, Scalar.select (IntOp.cmpi .eq (BitVec.ofNat 32 s.val) (p - 1#32)) (x s) 0) _ = _
      rw [hs, sge_bit, bit_true (by rw [hn, h0]; omega), ValueIdx.select_one, sum_slot ⟨p.toNat - 1, h2⟩]
      rcases BitVec.eq_zero_or_eq_one g with rfl | rfl <;> rfl
    · rfl
  · rw [sgt_bit, bit_false hpos]
    generalize canPush g p = c
    rcases BitVec.eq_zero_or_eq_one c with rfl | rfl <;> rcases BitVec.eq_zero_or_eq_one g with rfl | rfl <;> rfl

end Cert.Spec

end
-- ==== Proof.PreVal.lean ====
/-
  The precondition, read as a bound on every row's pointer.
-/
module

public import proofs.«01_k».proof.Pre_pointer_at_most_depth
public import proofs.«01_k».proof.Proof.Spec
public import Idealize.ShloMosaic.Lib.ReduceAll

@[expose] public section

set_option maxRecDepth 16384

noncomputable section

namespace Cert.Pre_pointer_at_most_depth.Val

open Cert.Pre_pointer_at_most_depth Idealize.ShloMosaic

theorem bound [Facts] (x0 : FVec Ideal S1024x4096 .f32) (x1 : FVec Ideal S1024x8x4096 .f32) (x2 : FVec Ideal S1024x1 .f32) (x3 : FVec Ideal S4096x4096 .f32)
    (x4 : FVec Ideal S4096 .f32) (x5 : FVec Ideal S4096x1 .f32) (x6 : FVec Ideal S1 .f32) (x7 x8 : FVec Ideal S4096 .f32)
    (h : fn x0 x1 x2 x3 x4 x5 x6 x7 x8 = fun _ => 1#1) (b : Fin 1024) :
    (FloatOps.fptosi (F := Ideal) (φ := .f32) 32 (x2 (ix2 b 0))).toInt ≤ 8 := by
  have h1 := congrFun h ix0
  unfold fn at h1
  haveI : Subsingleton S_.Idx := ⟨fun a b => funext fun i => i.elim0⟩
  have h2 := Host.reduce_andi_all _ _ _ _ _ h1 (ix2 b 0)
  pointwise at h2
  by_contra hn
  rw [Cert.Spec.sle_bit, Cert.Spec.bit_false (show ¬ _ ≤ (8#32 : BitVec 32).toInt from hn)] at h2
  exact absurd h2 (by decide)

end Cert.Pre_pointer_at_most_depth.Val

end
-- ==== Proof.PayVal.lean ====
/-
  What the kernel's bodies compute, read at an index over the extended reals.
-/
module

public import proofs.«01_k».proof.Proof.Gen.KernelIdeal.Skeleton
public import proofs.«01_k».proof.Proof.Spec

@[expose] public section

set_option maxRecDepth 16384

noncomputable section

namespace Cert.KernelIdeal.Val

open Cert.KernelIdeal Cert.KernelIdeal.Gen Idealize.ShloMosaic
open Cert.Spec

/-! ## The first body -/

theorem pay4_at (h : Vec Ideal S1024x512 .f32) (w : Vec Ideal S512x4096 .f32) (b : Fin 1024) (j : Fin 4096) :
    k0_pay4 h w (ix2 b j) = ∑ k : Fin 512, h (ix2 b k) * w (ix2 k j) := by
  pointwise [k0_pay4, k0_pay2, k0_pay1]
theorem pay6_at (h : Vec Ideal S1024x512 .f32) (w : Vec Ideal S512x4096 .f32) (a : Vec Ideal S1024x4096 .f32) (b : Fin 1024) (j : Fin 4096) :
    k0_pay6 h w a (ix2 b j) = a (ix2 b j) + ∑ k : Fin 512, h (ix2 b k) * w (ix2 k j) := by
  pointwise [k0_pay6, k0_pay2, k0_pay1]
theorem pay5_at (h : Vec Ideal S1024x512 .f32) (w : Vec Ideal S512x1 .f32) (b : Fin 1024) :
    k0_pay5 h w (ix2 b 0) = ∑ k : Fin 512, h (ix2 b k) * w (ix2 k 0) := by
  pointwise [k0_pay5, k0_pay3, k0_pay1]
theorem pay7_at (h : Vec Ideal S1024x512 .f32) (w : Vec Ideal S512x1 .f32) (a : Vec Ideal S1024x1 .f32) (b : Fin 1024) :
    k0_pay7 h w a (ix2 b 0) = a (ix2 b 0) + ∑ k : Fin 512, h (ix2 b k) * w (ix2 k 0) := by
  pointwise [k0_pay7, k0_pay3, k0_pay1]

theorem pay14_at (a : Vec Ideal S256x4096 .f32) (bp g be : Vec Ideal S1x4096 .f32) (r : Fin 256) (j : Fin 4096) :
    k0_pay14 a bp g be (ix2 r j) = normed (fun j => a (ix2 r j) + bp (ix2 0 j)) (fun j => g (ix2 0 j)) (fun j => be (ix2 0 j)) j := by
  pointwise [k0_pay14, normed, mean, var]
theorem pay15_at (a : Vec Ideal S256x1 .f32) (bg : Vec Ideal S1x1 .f32) (r : Fin 256) :
    k0_pay15 a bg (ix2 r 0) = Ideal.cmp .ogt (a (ix2 r 0) + bg (ix2 0 0)) 0 := by
  pointwise [k0_pay15]

theorem pay9_at (g : IVec S256x1 1) (p : Vec Ideal S256x1 .f32) (r : Fin 256) :
    k0_pay9 g p (ix2 r 0) = canPush (g (ix2 r 0)) (FloatOps.fptosi (F := Ideal) (φ := .f32) 32 (p (ix2 r 0))) := by
  pointwise [k0_pay9, k0_pay8, canPush]
theorem pay10_at (n : FVec Ideal S256x4096 .f32) (g : IVec S256x1 1) (p : Vec Ideal S256x1 .f32) (r : Fin 256) (j : Fin 4096) :
    k0_pay10 n g p (ix2 r j) = Scalar.select (canPush (g (ix2 r 0)) (FloatOps.fptosi (F := Ideal) (φ := .f32) 32 (p (ix2 r 0)))) (n (ix2 r j)) 0 := by
  pointwise [k0_pay10]
  rw [pay9_at]
theorem pay11_at (g : IVec S256x1 1) (p : Vec Ideal S256x1 .f32) (r : Fin 256) :
    k0_pay11 g p (ix2 r 0) = FloatOps.sitofp (F := Ideal) .f32 (nextPtr (g (ix2 r 0)) (FloatOps.fptosi (F := Ideal) (φ := .f32) 32 (p (ix2 r 0)))) := by
  pointwise [k0_pay11, k0_pay8, nextPtr, canPop]
  rw [pay9_at]
theorem pay12_at (g : IVec S256x1 1) (p : Vec Ideal S256x1 .f32) (r : Fin 256) :
    k0_pay12 g p (ix2 r 0) = wslot (g (ix2 r 0)) (FloatOps.fptosi (F := Ideal) (φ := .f32) 32 (p (ix2 r 0))) := by
  pointwise [k0_pay12, k0_pay8, wslot]
  rw [pay9_at]
theorem pay13_at (g : IVec S256x1 1) (p : Vec Ideal S256x1 .f32) (r : Fin 256) :
    k0_pay13 g p (ix2 r 0) = gslot (g (ix2 r 0)) (FloatOps.fptosi (F := Ideal) (φ := .f32) 32 (p (ix2 r 0))) := by
  pointwise [k0_pay13, k0_pay8, gslot]
  rw [pay9_at]

/-! ## The second body -/

theorem stk_at (w : Vec Ideal S64x1 .i32) (x : Vec Ideal S64x8x4096 .f32) (t : Vec Ideal S64x4096 .f32) (r : Fin 64) (s : Fin 8) (j : Fin 4096) :
    k1_pay1 w x t (ix3 r s j) =
      Scalar.select (IntOp.cmpi .eq (BitVec.ofNat 32 s.val) (w (ix2 r 0))) (t (ix2 r j)) (x (ix3 r s j)) := by
  pointwise [k1_pay1]
theorem item_at (q : Vec Ideal S64x1 .i32) (x : Vec Ideal S64x8x4096 .f32) (t : Vec Ideal S64x4096 .f32) (r : Fin 64) (j : Fin 4096) :
    k1_pay2 q x q t (ix2 r j) =
      Scalar.select (IntOp.cmpi .sge (q (ix2 r 0)) 0#32)
        (∑ s : Fin 8, Scalar.select (IntOp.cmpi .eq (BitVec.ofNat 32 s.val) (q (ix2 r 0))) (x (ix3 r s j)) 0) (t (ix2 r j)) := by
  pointwise [k1_pay2]

end Cert.KernelIdeal.Val

end
-- ==== Proof.InVal.lean ====
/-
  What the first region finds in the arrays it reads.
-/
module

public import proofs.«01_k».proof.Proof.IRun
public import proofs.«01_k».proof.Proof.PayVal
public import Idealize.ShloMosaic.Lib.Pipeline.ValueKit
public import Idealize.ShloMosaic.Lib.Claim

@[expose] public section

set_option maxRecDepth 16384

noncomputable section

namespace Cert.KernelIdeal.Val

open Cert.KernelIdeal Cert.KernelIdeal.Gen Cert.KernelIdeal.Run
open Idealize.ShloMosaic Idealize.ShloMosaic.TcCoe

variable (m : (ℓ : Loc nD τ sig) → Buf (Elt Ideal) ℓ) (c : Dev nD)

theorem in_v0 : W1 m c main_v0 = shapeCast S1x4096 (m ((c : Thread nD τ).loc main_arg4) : FVec Ideal S4096 .f32) shapeCasts_S4096_S1x4096 := by
  simp [W1, hostOps0]
  rw [StableHlo.reshape_result]
  rfl
theorem in_v1 : W1 m c main_v1 = shapeCast S1x4096 (m ((c : Thread nD τ).loc main_arg7) : FVec Ideal S4096 .f32) shapeCasts_S4096_S1x4096 := by
  simp [W1, hostOps0]
  rw [StableHlo.reshape_result]
  rfl
theorem in_v2 : W1 m c main_v2 = shapeCast S1x4096 (m ((c : Thread nD τ).loc main_arg8) : FVec Ideal S4096 .f32) shapeCasts_S4096_S1x4096 := by
  simp [W1, hostOps0]
  rw [StableHlo.reshape_result]
  rfl
theorem in_v3 : W1 m c main_v3 = shapeCast S1x1 (m ((c : Thread nD τ).loc main_arg6) : FVec Ideal S1 .f32) shapeCasts_S1_S1x1 := by
  simp [W1, hostOps0]
  rw [StableHlo.reshape_result]
  rfl

end Cert.KernelIdeal.Val

end
-- ==== Proof.AccVal.lean ====
/-
  The first kernel's accumulators over the extended reals: after point 7 they hold the whole products.
-/
module

public import proofs.«01_k».proof.Proof.IData
public import proofs.«01_k».proof.Proof.PayVal
public import Idealize.ShloMosaic.Lib.Pipeline.ValueKit

@[expose] public section

set_option maxRecDepth 16384

noncomputable section

namespace Cert.KernelIdeal.Val

open Cert.KernelIdeal Cert.KernelIdeal.Gen Cert.KernelIdeal.Run
open Idealize.ShloMosaic Idealize.ShloMosaic.TcCoe
open Cert.Spec

variable (V : (c : Dev nD) → (b : Ref sig .tc) → Buf (Elt Ideal) ((c : Thread nD τ).loc b)) (c : Dev nD)

/-- The blocks the windows are at, as numbers of the point. -/
theorem idx0 : ∀ t : Fin cfg0.N,
    win0_0.index t = ![0, min t.val 7] ∧ win0_1.index t = ![min t.val 7, 0] ∧ win0_2.index t = ![0, 0] ∧ win0_3.index t = ![0, 0]
      ∧ win0_4.index t = ![0, 0] ∧ win0_5.index t = ![min t.val 7, 0] ∧ win0_6.index t = ![0, 0] ∧ win0_7.index t = ![t.val - 8, 0]
      ∧ win0_8.index t = ![t.val - 8, 0] ∧ win0_9.index t = ![t.val - 8, 0] ∧ win0_10.index t = ![t.val - 8, 0] ∧ win0_11.index t = ![t.val - 8, 0] :=
  (by decide +kernel : ∀ t : Fin grid0.N, _)

/-- The arrays the first region reads, at their shapes. -/
abbrev aH : FVec Ideal S1024x4096 .f32 := V c main_arg0
abbrev aW : FVec Ideal S4096x4096 .f32 := V c main_arg3
abbrev aWg : FVec Ideal S4096x1 .f32 := V c main_arg5

/-- Their blocks at a point, at their shapes. -/
abbrev bH (t : Fin cfg0.N) : FVec Ideal S1024x512 .f32 := blk0 V c 0 t
abbrev bW (t : Fin cfg0.N) : FVec Ideal S512x4096 .f32 := blk0 V c 1 t
abbrev bWg (t : Fin cfg0.N) : FVec Ideal S512x1 .f32 := blk0 V c 5 t

theorem blk_h (t : Fin cfg0.N) (b : Fin 1024) (k : Fin 512) (q : Fin 4096) (hq : q.val = min t.val 7 * 512 + k.val) :
    bH V c t (ix2 b k) = aH V c (ix2 b q) := by
  blk_ext [bH, blk0, aH, idx0 t]
theorem blk_w (t : Fin cfg0.N) (k : Fin 512) (j : Fin 4096) (q : Fin 4096) (hq : q.val = min t.val 7 * 512 + k.val) :
    bW V c t (ix2 k j) = aW V c (ix2 q j) := by
  blk_ext [bW, blk0, aW, idx0 t]
theorem blk_wg (t : Fin cfg0.N) (k : Fin 512) (q : Fin 4096) (hq : q.val = min t.val 7 * 512 + k.val) :
    bWg V c t (ix2 k 0) = aWg V c (ix2 q 0) := by
  blk_ext [bWg, blk0, aWg, idx0 t]

/-- Term `q` of row `b`'s product with column `j`. -/
def term (b : Fin 1024) (j : Fin 4096) (q : ℕ) : EReal := if h : q < 4096 then aH V c (ix2 b ⟨q, h⟩) * aW V c (ix2 ⟨q, h⟩ j) else 0
def termG (b : Fin 1024) (q : ℕ) : EReal := if h : q < 4096 then aH V c (ix2 b ⟨q, h⟩) * aWg V c (ix2 ⟨q, h⟩ 0) else 0

/-- One point's products are 512 of the terms. -/
theorem block_sum (b : Fin 1024) (j : Fin 4096) (t : Fin cfg0.N) (n : ℕ) (ht : t.val = n) (hn : n < 8) :
    ∑ k : Fin 512, bH V c t (ix2 b k) * bW V c t (ix2 k j) =
      ∑ x ∈ Finset.range 512, term V c b j (n * 512 + x) := by
  rw [Finset.sum_range]
  refine Finset.sum_congr rfl fun k _ => ?_
  have hk := k.isLt
  rw [term, dif_pos (by omega : n * 512 + k.val < 4096), blk_h V c t b k ⟨n * 512 + k.val, by omega⟩ (by show n * 512 + k.val = _; omega),
    blk_w V c t k j ⟨n * 512 + k.val, by omega⟩ (by show n * 512 + k.val = _; omega)]
theorem block_sumG (b : Fin 1024) (t : Fin cfg0.N) (n : ℕ) (ht : t.val = n) (hn : n < 8) :
    ∑ k : Fin 512, bH V c t (ix2 b k) * bWg V c t (ix2 k 0) =
      ∑ x ∈ Finset.range 512, termG V c b (n * 512 + x) := by
  rw [Finset.sum_range]
  refine Finset.sum_congr rfl fun k _ => ?_
  have hk := k.isLt
  rw [termG, dif_pos (by omega : n * 512 + k.val < 4096), blk_h V c t b k ⟨n * 512 + k.val, by omega⟩ (by show n * 512 + k.val = _; omega),
    blk_wg V c t k ⟨n * 512 + k.val, by omega⟩ (by show n * 512 + k.val = _; omega)]

theorem acc0_at (x0 : Vec Ideal S1024x512 .f32) (x1 : Vec Ideal S512x4096 .f32) (b : Fin 1024) (j : Fin 4096) :
    acc0 x0 x1 (ix2 b j) = ∑ k : Fin 512, x0 (ix2 b k) * x1 (ix2 k j) := by
  unfold acc0; frame_out; exact pay4_at x0 x1 b j
theorem accS_at (x0 : Vec Ideal S1024x512 .f32) (x1 : Vec Ideal S512x4096 .f32) (xa : Vec Ideal S1024x4096 .f32) (b : Fin 1024) (j : Fin 4096) :
    accS x0 x1 xa (ix2 b j) = xa (ix2 b j) + ∑ k : Fin 512, x0 (ix2 b k) * x1 (ix2 k j) := by
  unfold accS; frame_out; exact pay6_at x0 x1 xa b j
theorem gacc0_at (x0 : Vec Ideal S1024x512 .f32) (x5 : Vec Ideal S512x1 .f32) (b : Fin 1024) :
    gacc0 x0 x5 (ix2 b 0) = ∑ k : Fin 512, x0 (ix2 b k) * x5 (ix2 k 0) := by
  unfold gacc0; frame_out; exact pay5_at x0 x5 b
theorem gaccS_at (x0 : Vec Ideal S1024x512 .f32) (x5 : Vec Ideal S512x1 .f32) (xg : Vec Ideal S1024x1 .f32) (b : Fin 1024) :
    gaccS x0 x5 xg (ix2 b 0) = xg (ix2 b 0) + ∑ k : Fin 512, x0 (ix2 b k) * x5 (ix2 k 0) := by
  unfold gaccS; frame_out; exact pay7_at x0 x5 xg b

theorem accAt_sum (b : Fin 1024) (j : Fin 4096) : ∀ n : ℕ, n < 8 →
    accAt V c n (ix2 b j) = ∑ q ∈ Finset.range ((n + 1) * 512), term V c b j q
  | 0, h => by
    rw [accAt, acc0_at]
    refine (block_sum V c b j (pt0 0) 0 rfl h).trans ?_
    simp only [Nat.zero_mul, Nat.zero_add, Nat.one_mul]
  | n + 1, h => by
    rw [accAt, if_pos h, accS_at, accAt_sum b j n (by omega), Nat.add_mul (n + 1) 1, Nat.one_mul, Finset.sum_range_add]
    congr 1
    exact block_sum V c b j (pt0 (n + 1)) (n + 1) (Nat.min_eq_left (by omega)) h
theorem gaccAt_sum (b : Fin 1024) : ∀ n : ℕ, n < 8 →
    gaccAt V c n (ix2 b 0) = ∑ q ∈ Finset.range ((n + 1) * 512), termG V c b q
  | 0, h => by
    rw [gaccAt, gacc0_at]
    refine (block_sumG V c b (pt0 0) 0 rfl h).trans ?_
    simp only [Nat.zero_mul, Nat.zero_add, Nat.one_mul]
  | n + 1, h => by
    rw [gaccAt, if_pos h, gaccS_at, gaccAt_sum b n (by omega), Nat.add_mul (n + 1) 1, Nat.one_mul, Finset.sum_range_add]
    congr 1
    exact block_sumG V c b (pt0 (n + 1)) (n + 1) (Nat.min_eq_left (by omega)) h

/-- After point 7 the accumulators hold the products of the whole rows and columns. -/
theorem accAt_full (b : Fin 1024) (j : Fin 4096) : accAt V c 7 (ix2 b j) = dotRow (aH V c) (aW V c) b j := by
  rw [accAt_sum V c b j 7 (by decide), Finset.sum_range]
  exact Finset.sum_congr rfl fun q _ => dif_pos q.isLt
theorem gaccAt_full (b : Fin 1024) : gaccAt V c 7 (ix2 b 0) = dotRow (aH V c) (aWg V c) b (0 : Fin 1) := by
  rw [gaccAt_sum V c b 7 (by decide), Finset.sum_range]
  exact Finset.sum_congr rfl fun q _ => dif_pos q.isLt

end Cert.KernelIdeal.Val

end
-- ==== Proof.Reg0Val.lean ====
/-
  What the first region leaves in its four arrays, over the extended reals.
-/
module

public import proofs.«01_k».proof.Proof.AccVal

@[expose] public section

set_option maxRecDepth 16384

noncomputable section

namespace Cert.KernelIdeal.Val

open Cert.KernelIdeal Cert.KernelIdeal.Gen Cert.KernelIdeal.Run
open Idealize.ShloMosaic Idealize.ShloMosaic.TcCoe
open Cert.Spec

variable (V : (c : Dev nD) → (b : Ref sig .tc) → Buf (Elt Ideal) ((c : Thread nD τ).loc b)) (c : Dev nD)

abbrev aB : FVec Ideal S1x4096 .f32 := V c main_v0
abbrev aGm : FVec Ideal S1x4096 .f32 := V c main_v1
abbrev aBe : FVec Ideal S1x4096 .f32 := V c main_v2
abbrev aBg : FVec Ideal S1x1 .f32 := V c main_v3
abbrev aP : FVec Ideal S1024x1 .f32 := V c main_arg2
abbrev bB (t : Fin cfg0.N) : FVec Ideal S1x4096 .f32 := blk0 V c 2 t
abbrev bGm (t : Fin cfg0.N) : FVec Ideal S1x4096 .f32 := blk0 V c 3 t
abbrev bBe (t : Fin cfg0.N) : FVec Ideal S1x4096 .f32 := blk0 V c 4 t
abbrev bBg (t : Fin cfg0.N) : FVec Ideal S1x1 .f32 := blk0 V c 6 t
abbrev bP (t : Fin cfg0.N) : FVec Ideal S256x1 .f32 := blk0 V c 7 t

theorem blk_b (t : Fin cfg0.N) (j : Fin 4096) : bB V c t (ix2 0 j) = aB V c (ix2 0 j) := by blk_ext [bB, blk0, aB, idx0 t]
theorem blk_gm (t : Fin cfg0.N) (j : Fin 4096) : bGm V c t (ix2 0 j) = aGm V c (ix2 0 j) := by blk_ext [bGm, blk0, aGm, idx0 t]
theorem blk_be (t : Fin cfg0.N) (j : Fin 4096) : bBe V c t (ix2 0 j) = aBe V c (ix2 0 j) := by blk_ext [bBe, blk0, aBe, idx0 t]
theorem blk_bg (t : Fin cfg0.N) : bBg V c t (ix2 0 0) = aBg V c (ix2 0 0) := by blk_ext [bBg, blk0, aBg, idx0 t]
theorem blk_p (t : Fin cfg0.N) (r : Fin 256) (b : Fin 1024) (hb : b.val = (t.val - 8) * 256 + r.val) : bP V c t (ix2 r 0) = aP V c (ix2 b 0) := by
  blk_ext [bP, blk0, aP, idx0 t]

/-- Row `b`'s push vector, its gate and its pointer. -/
def pushV (b : Fin 1024) (j : Fin 4096) : EReal := dotRow (aH V c) (aW V c) b j + aB V c (ix2 0 j)
def gateV (b : Fin 1024) : BitVec 1 := Ideal.cmp .ogt (dotRow (aH V c) (aWg V c) b (0 : Fin 1) + aBg V c (ix2 0 0)) 0
def ptrV (b : Fin 1024) : BitVec 32 := FloatOps.fptosi (F := Ideal) (φ := .f32) 32 (aP V c (ix2 b 0))
def topV (b : Fin 1024) (j : Fin 4096) : EReal :=
  Scalar.select (canPush (gateV V c b) (ptrV V c b)) (normed (pushV V c b) (fun j => aGm V c (ix2 0 j)) (fun j => aBe V c (ix2 0 j)) j) 0

/-- The first row a late point reads of the accumulators. -/
theorem off1 : ∀ t : Fin cfg0.N, 8 ≤ t.val → k0_off1 (grid0.coords t) = ![(t.val - 8) * 256, 0] ∧ k0_off2 (grid0.coords t) = ![(t.val - 8) * 256, 0] :=
  (by decide +kernel : ∀ t : Fin grid0.N, 8 ≤ t.val → k0_off1 (grid0.coords t) = ![(t.val - 8) * 256, 0] ∧ k0_off2 (grid0.coords t) = ![(t.val - 8) * 256, 0])

theorem ldA (t : Fin cfg0.N) (h8 : 8 ≤ t.val) (h : k0_cond4 (grid0.coords t) = 1#1) (xa : FVec Ideal S1024x4096 .f32) (r : Fin 256) (j : Fin 4096)
    (b : Fin 1024) (hb : b.val = (t.val - 8) * 256 + r.val) : View.ld (Val := Elt Ideal) (e' := .f32) xa (rAi (grid0.coords t) h) (ix2 r j) = xa (ix2 b j) := by
  have e := (off1 t h8).1
  pointwise
  blk_ext [e]
theorem ldG (t : Fin cfg0.N) (h8 : 8 ≤ t.val) (h : k0_cond4 (grid0.coords t) = 1#1) (xg : FVec Ideal S1024x1 .f32) (r : Fin 256)
    (b : Fin 1024) (hb : b.val = (t.val - 8) * 256 + r.val) : View.ld (Val := Elt Ideal) (e' := .f32) xg (rGi (grid0.coords t) h) (ix2 r 0) = xg (ix2 b 0) := by
  have e := (off1 t h8).2
  pointwise
  blk_ext [e]

/-- The row vectors and the one bias are read whole. -/
theorem ldRow (x : FVec Ideal S1x4096 .f32) (j : Fin 4096) : View.ld (Val := Elt Ideal) (e' := .f32) x rRow (ix2 0 j) = x (ix2 0 j) := by
  pointwise
theorem ldOne (x : FVec Ideal S1x1 .f32) : View.ld (Val := Elt Ideal) (e' := .f32) x rOne (ix2 0 0) = x (ix2 0 0) := by
  pointwise

/-- A late point's gate and normalized rows are the arrays'. -/
theorem gate_at (t : Fin cfg0.N) (h8 : 8 ≤ t.val) (h : k0_cond4 (grid0.coords t) = 1#1) (r : Fin 256) (b : Fin 1024)
    (hb : b.val = (t.val - 8) * 256 + r.val) : Run.gate (grid0.coords t) h (bBg V c t) (gaccAt V c 7) (ix2 r 0) = gateV V c b := by
  refine (pay15_at _ _ r).trans ?_
  rw [ldG t h8 h _ r b hb, gaccAt_full, gateV, ldOne, blk_bg V c t]
theorem nrm_at (t : Fin cfg0.N) (h8 : 8 ≤ t.val) (h : k0_cond4 (grid0.coords t) = 1#1) (r : Fin 256) (j : Fin 4096) (b : Fin 1024)
    (hb : b.val = (t.val - 8) * 256 + r.val) : nrm (grid0.coords t) h (bB V c t) (bGm V c t) (bBe V c t) (accAt V c 7) (ix2 r j) =
      normed (pushV V c b) (fun j => aGm V c (ix2 0 j)) (fun j => aBe V c (ix2 0 j)) j := by
  refine (pay14_at _ _ _ _ r j).trans ?_
  have e1 : (fun j => View.ld (Val := Elt Ideal) (e' := .f32) (accAt V c 7) (rAi (grid0.coords t) h) (ix2 r j)
      + View.ld (Val := Elt Ideal) (e' := .f32) (bB V c t) rRow (ix2 0 j) : Fin 4096 → EReal) = pushV V c b := by
    funext j
    rw [ldA t h8 h _ r j b hb, accAt_full, pushV, ldRow, blk_b V c t]
  have e2 : (fun j => View.ld (Val := Elt Ideal) (e' := .f32) (bGm V c t) rRow (ix2 0 j) : Fin 4096 → EReal) = fun j => aGm V c (ix2 0 j) := by
    funext j; rw [ldRow, blk_gm V c t]
  have e3 : (fun j => View.ld (Val := Elt Ideal) (e' := .f32) (bBe V c t) rRow (ix2 0 j) : Fin 4096 → EReal) = fun j => aBe V c (ix2 0 j) := by
    funext j; rw [ldRow, blk_be V c t]
  rw [e1, e2, e3]

theorem ptr_at (t : Fin cfg0.N) (r : Fin 256) (b : Fin 1024) (hb : b.val = (t.val - 8) * 256 + r.val) :
    FloatOps.fptosi (F := Ideal) (φ := .f32) 32 (bP V c t (ix2 r 0)) = ptrV V c b := by
  rw [ptrV, ← blk_p V c t r b hb]

/-- The arrays the region leaves. -/
def gTop : FVec Ideal S1024x4096 .f32 := fun i => topV V c (i 0) (i 1)
def gPtr : FVec Ideal S1024x1 .f32 := fun i => FloatOps.sitofp (F := Ideal) .f32 (nextPtr (gateV V c (i 0)) (ptrV V c (i 0)))
def gW : IVec S1024x1 32 := fun i => wslot (gateV V c (i 0)) (ptrV V c (i 0))
def gG : IVec S1024x1 32 := fun i => gslot (gateV V c (i 0)) (ptrV V c (i 0))

theorem late_of_flush {w : Fin 4} {t : Fin cfg0.N}
    (h : (match w with | 0 => (cfg0.win 8).flush t | 1 => (cfg0.win 9).flush t | 2 => (cfg0.win 10).flush t | 3 => (cfg0.win 11).flush t) = true) : 8 ≤ t.val := by
  by_contra hn
  obtain ⟨h1, h2, h3, h4⟩ := flush_early t (by omega)
  fin_cases w <;> simp_all

/-- A row of an output block is a row of its array. -/
theorem row (t : Fin cfg0.N) (r : Fin 256) : (t.val - 8) * 256 + r.val < 1024 := by
  have := t.isLt; have h : cfg0.N = 12 := N_0; have := r.isLt; omega

theorem top_arr : (dat0 V c).arrAt 8 cfg0.N = gTop V c := by
  refine (dat0 V c).arrAt_eq_of_covers 8 _ (by decide +kernel) fun t hf y => ?_
  have h8 := late_of_flush (w := 0) hf
  have h := (point_late t h8).2
  blk_simp
  rw [after0_8, topAt_late V c t h]
  unfold topOut
  frame_out
  idx_vars y
  have e : ((View.whole main_v4_0).slice (win0_8.rect t)).emb (ix2 y0 y1) = ix2 ⟨(t.val - 8) * 256 + y0.val, row t y0⟩ y1 := by
    blk_ext [idx0 t]
  rw [e]
  refine (pay10_at _ _ _ y0 y1).trans ?_
  refine (congrArg₂ _ (congrArg₂ _ (gate_at V c t h8 h y0 _ rfl) (ptr_at V c t y0 _ rfl)) (nrm_at V c t h8 h y0 y1 _ rfl) |> fun e => congrFun e 0)
theorem ptr_arr : (dat0 V c).arrAt 9 cfg0.N = gPtr V c := by
  refine (dat0 V c).arrAt_eq_of_covers 9 _ (by decide +kernel) fun t hf y => ?_
  have h8 := late_of_flush (w := 1) hf
  have h := (point_late t h8).2
  blk_simp
  rw [after0_9, ptrAt_late V c t h]
  unfold ptrOut
  frame_out
  idx_vars y
  obtain rfl : y1 = 0 := Subsingleton.elim _ _
  have e : ((View.whole main_v4_1).slice (win0_9.rect t)).emb (ix2 y0 0) = ix2 ⟨(t.val - 8) * 256 + y0.val, row t y0⟩ 0 := by
    blk_ext [idx0 t]
  rw [e]
  refine (pay11_at _ _ y0).trans ?_
  exact congrArg₂ (fun g p => FloatOps.sitofp (F := Ideal) .f32 (nextPtr g p)) (gate_at V c t h8 h y0 _ rfl) (ptr_at V c t y0 _ rfl)
theorem w_arr : (dat0 V c).arrAt 10 cfg0.N = gW V c := by
  refine (dat0 V c).arrAt_eq_of_covers 10 _ (by decide +kernel) fun t hf y => ?_
  have h8 := late_of_flush (w := 2) hf
  have h := (point_late t h8).2
  blk_simp
  rw [after0_10, wslotAt_late V c t h]
  unfold wslotOut
  frame_out
  idx_vars y
  obtain rfl : y1 = 0 := Subsingleton.elim _ _
  have e : ((View.whole main_v4_2).slice (win0_10.rect t)).emb (ix2 y0 0) = ix2 ⟨(t.val - 8) * 256 + y0.val, row t y0⟩ 0 := by
    blk_ext [idx0 t]
  rw [e]
  refine (pay12_at _ _ y0).trans ?_
  exact congrArg₂ (fun g p => wslot g p) (gate_at V c t h8 h y0 _ rfl) (ptr_at V c t y0 _ rfl)
theorem g_arr : (dat0 V c).arrAt 11 cfg0.N = gG V c := by
  refine (dat0 V c).arrAt_eq_of_covers 11 _ (by decide +kernel) fun t hf y => ?_
  have h8 := late_of_flush (w := 3) hf
  have h := (point_late t h8).2
  blk_simp
  rw [after0_11, gslotAt_late V c t h]
  unfold gslotOut
  frame_out
  idx_vars y
  obtain rfl : y1 = 0 := Subsingleton.elim _ _
  have e : ((View.whole main_v4_3).slice (win0_11.rect t)).emb (ix2 y0 0) = ix2 ⟨(t.val - 8) * 256 + y0.val, row t y0⟩ 0 := by
    blk_ext [idx0 t]
  rw [e]
  refine (pay13_at _ _ y0).trans ?_
  exact congrArg₂ (fun g p => gslot g p) (gate_at V c t h8 h y0 _ rfl) (ptr_at V c t y0 _ rfl)

end Cert.KernelIdeal.Val

end
-- ==== Proof.Reg1Val.lean ====
/-
  What the second region leaves in its two arrays, over the extended reals.
-/
module

public import proofs.«01_k».proof.Proof.IData
public import proofs.«01_k».proof.Proof.PayVal
public import Idealize.ShloMosaic.Lib.Pipeline.ValueKit

@[expose] public section

set_option maxRecDepth 16384

noncomputable section

namespace Cert.KernelIdeal.Val

open Cert.KernelIdeal Cert.KernelIdeal.Gen Cert.KernelIdeal.Run
open Idealize.ShloMosaic Idealize.ShloMosaic.TcCoe
open Cert.Spec

variable (V : (c : Dev nD) → (b : Ref sig .tc) → Buf (Elt Ideal) ((c : Thread nD τ).loc b)) (c : Dev nD)

/-- Every window is at the point's own block. -/
theorem idx1 : ∀ t : Fin cfg1.N,
    win1_0.index t = ![t.val, 0, 0] ∧ win1_1.index t = ![t.val, 0] ∧ win1_2.index t = ![t.val, 0] ∧ win1_3.index t = ![t.val, 0]
      ∧ win1_4.index t = ![t.val, 0, 0] ∧ win1_5.index t = ![t.val, 0] :=
  (by decide +kernel : ∀ t : Fin grid1.N, _)

/-- The arrays the second region reads, at their shapes, and their blocks at a point. -/
abbrev aStk : FVec Ideal S1024x8x4096 .f32 := V c main_arg1
abbrev aTop : FVec Ideal S1024x4096 .f32 := V c main_v4_0
abbrev aWs : IVec S1024x1 32 := V c main_v4_2
abbrev aGs : IVec S1024x1 32 := V c main_v4_3
abbrev bStk (t : Fin cfg1.N) : FVec Ideal S64x8x4096 .f32 := blk1 V c 0 t
abbrev bTop (t : Fin cfg1.N) : FVec Ideal S64x4096 .f32 := blk1 V c 1 t
abbrev bWs (t : Fin cfg1.N) : IVec S64x1 32 := blk1 V c 2 t
abbrev bGs (t : Fin cfg1.N) : IVec S64x1 32 := blk1 V c 3 t

theorem row1 (t : Fin cfg1.N) (r : Fin 64) : t.val * 64 + r.val < 1024 := by
  have := t.isLt; have h : cfg1.N = 16 := N_1; have := r.isLt; omega

theorem blk_stk (t : Fin cfg1.N) (r : Fin 64) (s : Fin 8) (j : Fin 4096) : bStk V c t (ix3 r s j) = aStk V c (ix3 ⟨t.val * 64 + r.val, row1 t r⟩ s j) := by
  blk_ext [bStk, blk1, aStk, idx1 t]
theorem blk_top (t : Fin cfg1.N) (r : Fin 64) (j : Fin 4096) : bTop V c t (ix2 r j) = aTop V c (ix2 ⟨t.val * 64 + r.val, row1 t r⟩ j) := by
  blk_ext [bTop, blk1, aTop, idx1 t]
theorem blk_ws (t : Fin cfg1.N) (r : Fin 64) : bWs V c t (ix2 r 0) = aWs V c (ix2 ⟨t.val * 64 + r.val, row1 t r⟩ 0) := by
  blk_ext [bWs, blk1, aWs, idx1 t]
theorem blk_gs (t : Fin cfg1.N) (r : Fin 64) : bGs V c t (ix2 r 0) = aGs V c (ix2 ⟨t.val * 64 + r.val, row1 t r⟩ 0) := by
  blk_ext [bGs, blk1, aGs, idx1 t]

/-- The arrays the region leaves. -/
def stkV (b : Fin 1024) (s : Fin 8) (j : Fin 4096) : EReal :=
  Scalar.select (IntOp.cmpi .eq (BitVec.ofNat 32 s.val) (aWs V c (ix2 b 0))) (aTop V c (ix2 b j)) (aStk V c (ix3 b s j))
def itemV (b : Fin 1024) (j : Fin 4096) : EReal :=
  Scalar.select (IntOp.cmpi .sge (aGs V c (ix2 b 0)) 0#32)
    (∑ s : Fin 8, Scalar.select (IntOp.cmpi .eq (BitVec.ofNat 32 s.val) (aGs V c (ix2 b 0))) (aStk V c (ix3 b s j)) 0) (aTop V c (ix2 b j))
def gStk : FVec Ideal S1024x8x4096 .f32 := fun i => stkV V c (i 0) (i 1) (i 2)
def gItem : FVec Ideal S1024x4096 .f32 := fun i => itemV V c (i 0) (i 1)

theorem stk_arr : (dat1 V c).arrAt 4 cfg1.N = gStk V c := by
  refine (dat1 V c).arrAt_eq_of_covers 4 _ (by decide +kernel) fun t _ y => ?_
  blk_simp
  rw [after1_4]
  unfold stkOut
  frame_out
  idx_vars y
  have e : ((View.whole main_v5_0).slice (win1_4.rect t)).emb (ix3 y0 y1 y2) = ix3 ⟨t.val * 64 + y0.val, row1 t y0⟩ y1 y2 := by
    blk_ext [idx1 t]
  rw [e]
  refine (stk_at (bWs V c t) (bStk V c t) (bTop V c t) y0 y1 y2).trans ?_
  rw [blk_ws, blk_stk, blk_top]
  rfl

theorem item_arr : (dat1 V c).arrAt 5 cfg1.N = gItem V c := by
  refine (dat1 V c).arrAt_eq_of_covers 5 _ (by decide +kernel) fun t _ y => ?_
  blk_simp
  rw [after1_5]
  unfold itemOut
  frame_out
  idx_vars y
  have e : ((View.whole main_v5_1).slice (win1_5.rect t)).emb (ix2 y0 y1) = ix2 ⟨t.val * 64 + y0.val, row1 t y0⟩ y1 := by
    blk_ext [idx1 t]
  rw [e]
  refine (item_at (bGs V c t) (bStk V c t) (bTop V c t) y0 y1).trans ?_
  simp only [blk_gs, blk_stk, blk_top]
  rfl

end Cert.KernelIdeal.Val

end
-- ==== Proof.RefVal.lean ====
/-
  The reference's results read at an index.
-/
module

public import proofs.«01_k».proof.Proof.Gen.ReferenceIdeal.Read
public import proofs.«01_k».proof.Proof.Spec

@[expose] public section

set_option maxRecDepth 16384

noncomputable section

namespace Cert.ReferenceIdeal.Val

open Cert.ReferenceIdeal Cert.ReferenceIdeal.Gen Cert.ReferenceIdeal.Read Idealize.ShloMosaic
open Cert.Spec

variable (x0 : FVec Ideal S1024x4096 .f32) (x1 : FVec Ideal S1024x8x4096 .f32) (x2 : FVec Ideal S1024x1 .f32)
  (x3 : FVec Ideal S4096x4096 .f32) (x4 : FVec Ideal S4096 .f32) (x5 : FVec Ideal S4096x1 .f32) (x6 : FVec Ideal S1 .f32)
  (x7 x8 : FVec Ideal S4096 .f32)

/-- Row `b` of what is pushed. -/
def push (b : Fin 1024) (j : Fin 4096) : EReal := dotRow x0 x3 b j + x4 (ix1 j)

theorem v3_at (b : Fin 1024) (j : Fin 4096) : val_main_v3 (F := Ideal) x0 x3 x4 (ix2 b j) = push x0 x3 x4 b j := by
  pointwise [val_main_v3, val_main_v2, val_main_v1, val_main_v0, push, dotRow]

theorem v7_at (b : Fin 1024) : val_main_v7 (F := Ideal) x0 x3 x4 (ix2 b 0) = mean (push x0 x3 x4 b) := by
  pointwise [val_main_v7, val_main_v6, val_main_v5, val_main_v4, val_main_cst, val_main_cst_0, mean]
  simp only [v3_at]

theorem v14_at (b : Fin 1024) : val_main_v14 (F := Ideal) x0 x3 x4 (ix2 b 0) = var (push x0 x3 x4 b) := by
  pointwise [val_main_v14, val_main_v13, val_main_v12, val_main_v11, val_main_v10, val_main_v9, val_main_v8, val_main_cst_1, val_main_cst_2, var]
  simp only [v3_at, v7_at]

theorem v27_at (b : Fin 1024) (j : Fin 4096) :
    val_main_v27 (F := Ideal) x0 x3 x4 x7 x8 (ix2 b j) = normed (push x0 x3 x4 b) (fun j => x7 (ix1 j)) (fun j => x8 (ix1 j)) j := by
  pointwise [val_main_v27, val_main_v26, val_main_v25, val_main_v24, val_main_v23, val_main_v22, val_main_v21, val_main_v20, val_main_v19,
    val_main_v18, val_main_v17, val_main_v16, val_main_v15, val_main_cst_3, normed]
  simp only [v3_at, v7_at, v14_at]

/-! ## The gate -/

theorem half_lit : Ideal.ofBits .f32 0x3F000000#32 = ((1 / 2 : ℝ) : EReal) := by
  show Ideal.ieee 8 23 (0x3F000000#32 : BitVec 32) = _
  have hs : ((0x3F000000#32 : BitVec 32).extractLsb' (8 + 23) 1 == 1#1) = false := by decide
  have he : ((0x3F000000#32 : BitVec 32).extractLsb' 23 8).toNat = 126 := by decide
  have hf : ((0x3F000000#32 : BitVec 32).extractLsb' 0 23).toNat = 0 := by decide
  simp only [Ideal.ieee, hs, he, hf]
  norm_num

theorem exp_bot : Ideal.exp ⊥ = 0 := rfl
theorem exp_top : Ideal.exp ⊤ = ⊤ := rfl
theorem exp_real (r : ℝ) : Ideal.exp (r : EReal) = ((Real.exp r : ℝ) : EReal) := rfl

/-- The logistic function is above one half exactly at the positive numbers. -/
theorem logistic_half (x : EReal) : ((1 / 2 : ℝ) : EReal) < Ideal.div 1 (1 + Ideal.exp (-x)) ↔ 0 < x := by
  induction x with
  | bot =>
    rw [EReal.neg_bot, exp_top, show (1 : EReal) + ⊤ = ⊤ from rfl, Ideal.div, if_neg (by simp), EReal.inv_top, mul_zero]
    exact ⟨fun h => absurd h (by rw [EReal.coe_neg']; norm_num), fun h => absurd h (by simp)⟩
  | top =>
    rw [EReal.neg_top, exp_bot, add_zero, Ideal.div, if_neg one_ne_zero, one_mul, show (1 : EReal) = ((1 : ℝ) : EReal) from rfl,
      ← EReal.coe_inv, EReal.coe_lt_coe_iff]
    norm_num
  | coe r =>
    have hp : (0 : ℝ) < 1 + Real.exp (-r) := by positivity
    have h1 : (1 : EReal) + Ideal.exp (-(r : EReal)) = ((1 + Real.exp (-r) : ℝ) : EReal) := by
      rw [← EReal.coe_neg, exp_real]; rfl
    rw [h1, Ideal.div, if_neg (by exact_mod_cast hp.ne'), one_mul, ← EReal.coe_inv, EReal.coe_lt_coe_iff, EReal.coe_pos,
      one_div, inv_lt_inv₀ (by norm_num) hp]
    constructor
    · intro h
      have : Real.exp (-r) < Real.exp 0 := by rw [Real.exp_zero]; linarith
      have := Real.exp_lt_exp.mp this
      linarith
    · intro h
      have : Real.exp (-r) < Real.exp 0 := Real.exp_lt_exp.mpr (by linarith)
      rw [Real.exp_zero] at this; linarith

/-- Row `b`'s gate. -/
def gate (b : Fin 1024) : BitVec 1 := Ideal.cmp .ogt (dotRow x0 x5 b (0 : Fin 1) + x6 (ix1 0)) 0
/-- Row `b`'s pointer. -/
def ptr (b : Fin 1024) : BitVec 32 := FloatOps.fptosi (F := Ideal) (φ := .f32) 32 (x2 (ix2 b 0))

theorem v40_at (b : Fin 1024) : val_main_v40 (F := Ideal) x0 x5 x6 (ix1 b) = gate x0 x5 x6 b := by
  pointwise [val_main_v40, val_main_v39, val_main_v38, val_main_v37, val_main_v36, val_main_v35, val_main_v34, val_main_v33, val_main_v32,
    val_main_v31, val_main_v30, val_main_v29, val_main_v28, val_main_cst_4, val_main_cst_5, val_main_cst_6, gate, dotRow]
  simp only [half_lit, logistic_half]

theorem v42_at (b : Fin 1024) : val_main_v42 (F := Ideal) x2 (ix1 b) = ptr x2 b := by
  pointwise [val_main_v42, val_main_v41, ptr]

theorem v45_at (b : Fin 1024) : val_main_v45 (F := Ideal) x0 x2 x5 x6 (ix1 b) = canPop (gate x0 x5 x6 b) (ptr x2 b) := by
  pointwise [val_main_v45, val_main_v44, val_main_v43, val_main_c, canPop]
  simp only [v40_at, v42_at]

theorem not_eq_xor (g : BitVec 1) : ~~~g = IntOp.xori g 1#1 := by
  revert g; decide

theorem v49_at (b : Fin 1024) : val_main_v49 (F := Ideal) x0 x2 x5 x6 (ix1 b) = canPush (gate x0 x5 x6 b) (ptr x2 b) := by
  pointwise [val_main_v49, val_main_v48, val_main_v47, val_main_v46, val_main_c_7, canPush]
  simp only [v40_at, v42_at, not_eq_xor]

theorem v67_at (b : Fin 1024) (s : Fin 8) (j : Fin 4096) : val_main_v67 (F := Ideal) x0 x1 x2 x3 x4 x5 x6 x7 x8 (ix3 b s j) =
    Scalar.select (IntOp.andi (IntOp.cmpi .eq (BitVec.ofNat 32 s.val) (ptr x2 b)) (canPush (gate x0 x5 x6 b) (ptr x2 b)))
      (normed (push x0 x3 x4 b) (fun j => x7 (ix1 j)) (fun j => x8 (ix1 j)) j) (x1 (ix3 b s j)) := by
  pointwise [val_main_v67, val_main_call0_v1, val_main_call0_v0, val_main_v66, val_main_v65, val_main_v64, val_main_v63, val_main_v62,
    val_main_v61, val_main_v60, val_main_v59, val_main_v58, val_main_v57, val_main_v56]
  simp only [v27_at, v42_at, v49_at]

theorem v75_at (b : Fin 1024) : val_main_v75 (F := Ideal) x0 x2 x5 x6 (ix2 b 0) =
    FloatOps.sitofp (F := Ideal) .f32 (nextPtr (gate x0 x5 x6 b) (ptr x2 b)) := by
  pointwise [val_main_v75, val_main_v74, val_main_v73, val_main_v72, val_main_v71, val_main_v70, val_main_v69, val_main_v68, val_main_c_9,
    val_main_c_10, nextPtr]
  simp only [v42_at, v45_at, v49_at]

/-! ## The slot read -/

/-! The gather's axes: the batch row, the slot looked up, the entry within the slot. -/
theorem gd_batch : (0 : Fin S1024x8x4096.rank) ∈ GatherDims.operandBatchingDims gather_S1024x8x4096_S1024x1x1_S1024x1x4096_2_1_0_0_1_2_114096 := List.mem_singleton.mpr rfl
theorem gd_slot : (1 : Fin S1024x8x4096.rank) ∈ GatherDims.startIndexMap gather_S1024x8x4096_S1024x1x1_S1024x1x4096_2_1_0_0_1_2_114096 := List.mem_singleton.mpr rfl
theorem gd_coll : (1 : Fin S1024x8x4096.rank) ∈ GatherDims.collapsedSliceDims gather_S1024x8x4096_S1024x1x1_S1024x1x4096_2_1_0_0_1_2_114096 := List.mem_singleton.mpr rfl
theorem gd_nbatch1 : (1 : Fin S1024x8x4096.rank) ∉ GatherDims.operandBatchingDims gather_S1024x8x4096_S1024x1x1_S1024x1x4096_2_1_0_0_1_2_114096 := fun h => absurd (List.mem_singleton.mp h) (by decide)
theorem gd_nbatch2 : (2 : Fin S1024x8x4096.rank) ∉ GatherDims.operandBatchingDims gather_S1024x8x4096_S1024x1x1_S1024x1x4096_2_1_0_0_1_2_114096 := fun h => absurd (List.mem_singleton.mp h) (by decide)
theorem gd_nslot2 : (2 : Fin S1024x8x4096.rank) ∉ GatherDims.startIndexMap gather_S1024x8x4096_S1024x1x1_S1024x1x4096_2_1_0_0_1_2_114096 := fun h => absurd (List.mem_singleton.mp h) (by decide)
theorem gd_ncoll2 : (2 : Fin S1024x8x4096.rank) ∉ GatherDims.collapsedSliceDims gather_S1024x8x4096_S1024x1x1_S1024x1x4096_2_1_0_0_1_2_114096 := fun h => absurd (List.mem_singleton.mp h) (by decide)

/-- Which element the gather reads. -/
theorem gather_at (x : FVec Ideal S1024x8x4096 .f32) (idx : IVec S1024x1x1 32) (b : Fin 1024) (j : Fin 4096) :
    Host.gather gather_S1024x8x4096_S1024x1x1_S1024x1x4096_2_1_0_0_1_2_114096 x idx (ix3 b 0 j) = x (ix3 b ⟨min (idx (ix3 b 0 0)).toInt.toNat 7, by omega⟩ j) := by
  unfold Host.gather
  refine congrArg x (funext fun a => Fin.ext ?_)
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start gather_S1024x8x4096_S1024x1x1_S1024x1x4096_2_1_0_0_1_2_114096 _ _ a + GatherDims.batchCoord gather_S1024x8x4096_S1024x1x1_S1024x1x4096_2_1_0_0_1_2_114096 _ a + GatherDims.offCoord gather_S1024x8x4096_S1024x1x1_S1024x1x4096_2_1_0_0_1_2_114096 _ a = _
  rcases ha with rfl | rfl | rfl
  · rw [GatherDims.start_batching _ _ _ _ gd_batch, GatherDims.offCoord_eq_zero _ _ _ (fun h => ((GatherDims.mem_sKept _ _).mp h).2 gd_batch)]
    unfold GatherDims.batchCoord
    rw [dif_pos gd_batch]
    simp only [Nat.zero_add, Nat.add_zero]
    rfl
  · rw [GatherDims.batchCoord_eq_zero _ _ _ gd_nbatch1, GatherDims.offCoord_eq_zero _ _ _ (fun h => ((GatherDims.mem_sKept _ _).mp h).1 gd_coll)]
    unfold GatherDims.start
    rw [dif_pos gd_slot]
    simp only [Nat.add_zero]
    have hsi : GatherDims.siIdx gather_S1024x8x4096_S1024x1x1_S1024x1x4096_2_1_0_0_1_2_114096 (ix3 b 0 j) ⟨List.idxOf (1 : Fin S1024x8x4096.rank) (GatherDims.startIndexMap gather_S1024x8x4096_S1024x1x1_S1024x1x4096_2_1_0_0_1_2_114096), List.idxOf_lt_length_iff.2 gd_slot⟩ =
        ix3 b 0 0 := by
      funext c; refine Fin.ext ?_
      match c with
      | ⟨0, _⟩ => rfl
      | ⟨1, _⟩ => rfl
      | ⟨2, _⟩ => rfl
    rw [hsi]
    rfl
  · rw [GatherDims.batchCoord_eq_zero _ _ _ gd_nbatch2]
    unfold GatherDims.start
    rw [dif_neg gd_nslot2]
    unfold GatherDims.offCoord
    rw [dif_pos ((GatherDims.mem_sKept _ _).mpr ⟨gd_ncoll2, gd_nbatch2⟩)]
    simp only [Nat.zero_add, Nat.add_zero]
    rfl

theorem v79_at (b : Fin 1024) : val_main_v79 (F := Ideal) x2 (ix3 b 0 0) = prevSlot (ptr x2 b) := by
  pointwise [val_main_v79, val_main_v78, val_main_call3_v4, val_main_call3_v3, val_main_call3_v2, val_main_call3_v1, val_main_call3_v0,
    val_main_v77, val_main_v76, val_main_c_11, val_main_c_12, val_main_c_13, prevSlot, id]
  rw [v42_at]

theorem slot_at (b : Fin 1024) : val_main_call4_v4 (F := Ideal) x2 (ix3 b 0 0) = prevSlot (ptr x2 b) := by
  pointwise [val_main_call4_v4, val_main_call4_v3, val_main_call4_v2, val_main_call4_v1, val_main_call4_v0, val_main_call4_c, val_main_call4_c_0]
  simp only [v79_at]
  have hn : ¬ (prevSlot (ptr x2 b)).toInt < (0#32 : BitVec 32).toInt := by
    rw [prevSlot_val, show (0#32 : BitVec 32).toInt = 0 by decide]; omega
  rw [slt_bit, bit_false hn]; rfl

theorem inb_at (b : Fin 1024) : val_main_call4_v11 (F := Ideal) x2 (ix2 b 0) = 1#1 := by
  pointwise [val_main_call4_v11, val_main_call4_v10, val_main_call4_v9, val_main_call4_v8, val_main_call4_v7, val_main_call4_v6,
    val_main_call4_v5, val_main_call4_c_1, val_main_call4_c_2, val_main_call4_c_3]
  have h0 : (0#32 : BitVec 32).toInt ≤ (prevSlot (ptr x2 b)).toInt := by
    rw [prevSlot_val, show (0#32 : BitVec 32).toInt = 0 by decide]; omega
  have h7 : (prevSlot (ptr x2 b)).toInt ≤ (7#32 : BitVec 32).toInt := by
    rw [prevSlot_val, show (7#32 : BitVec 32).toInt = 7 by decide]; omega
  rw [Finset.univ_unique, Finset.fold_singleton]
  rw [show (default : Fin 1) = 0 from rfl, slot_at, sge_bit, sle_bit, bit_true h0, bit_true h7]
  rfl

theorem slot_within (x : FVec Ideal S1024x8x4096 .f32) (b : Fin 1024) (j : Fin 4096) {p q : BitVec 32} (hpq : p = q)
    (h : q.toInt.toNat < 8) (h' : min p.toInt.toNat 7 < 8) :
    x (ix3 b ⟨min p.toInt.toNat 7, h'⟩ j) = x (ix3 b ⟨q.toInt.toNat, h⟩ j) := by
  subst hpq
  generalize p.toInt.toNat = n at h h'
  have : (⟨min n 7, h'⟩ : Fin 8) = ⟨n, h⟩ := Fin.ext (by show min n 7 = n; omega)
  rw [this]

theorem v81_at (b : Fin 1024) (j : Fin 4096) : val_main_v81 (F := Ideal) x1 x2 (ix2 b j) =
    x1 (ix3 b ⟨(prevSlot (ptr x2 b)).toInt.toNat, prevSlot_lt _⟩ j) := by
  pointwise [val_main_v81, val_main_v80, val_main_call4_v13, val_main_call4_v12]
  rw [inb_at]
  exact (gather_at x1 (val_main_call4_v4 (F := Ideal) x2) b j).trans (slot_within x1 b j (slot_at x2 b) (prevSlot_lt _) _)

theorem v87_at (b : Fin 1024) (j : Fin 4096) : val_main_v87 (F := Ideal) x0 x1 x2 x3 x4 x5 x6 x7 x8 (ix2 b j) =
    Scalar.select (canPush (gate x0 x5 x6 b) (ptr x2 b)) (normed (push x0 x3 x4 b) (fun j => x7 (ix1 j)) (fun j => x8 (ix1 j)) j)
      (Scalar.select (IntOp.ori (canPop (gate x0 x5 x6 b) (ptr x2 b))
          (IntOp.andi (IntOp.andi (IntOp.xori (canPop (gate x0 x5 x6 b) (ptr x2 b)) 1#1) (IntOp.xori (canPush (gate x0 x5 x6 b) (ptr x2 b)) 1#1))
            (IntOp.cmpi .sgt (ptr x2 b) 0#32)))
        (x1 (ix3 b ⟨(prevSlot (ptr x2 b)).toInt.toNat, prevSlot_lt _⟩ j)) 0) := by
  pointwise [val_main_v87, val_main_v86, val_main_v85, val_main_v84, val_main_v83, val_main_v82, val_main_call6_v0, val_main_call5_v0,
    val_main_v55, val_main_v54, val_main_v53, val_main_v52, val_main_v51, val_main_v50, val_main_c_8, val_main_cst_14]
  simp only [v27_at, v42_at, v45_at, v49_at, v81_at, not_eq_xor]

end Cert.ReferenceIdeal.Val

end
-- ==== Proof.KerVal.lean ====
/-
  The kernel's three results, as functions of the arguments.
-/
module

public import proofs.«01_k».proof.Proof.InVal
public import proofs.«01_k».proof.Proof.Reg0Val
public import proofs.«01_k».proof.Proof.Reg1Val
public import proofs.«01_k».proof.Proof.RefVal

@[expose] public section

set_option maxRecDepth 16384

noncomputable section

namespace Cert.KernelIdeal.Val

open Cert.KernelIdeal Cert.KernelIdeal.Gen Cert.KernelIdeal.Run
open Idealize.ShloMosaic Idealize.ShloMosaic.TcCoe
open Cert.Spec

variable (m : (ℓ : Loc nD τ sig) → Buf (Elt Ideal) ℓ) (c : Dev nD)

/-- The arguments at their shapes. -/
abbrev m0 : FVec Ideal S1024x4096 .f32 := m ((c : Thread nD τ).loc main_arg0)
abbrev m1 : FVec Ideal S1024x8x4096 .f32 := m ((c : Thread nD τ).loc main_arg1)
abbrev m2 : FVec Ideal S1024x1 .f32 := m ((c : Thread nD τ).loc main_arg2)
abbrev m3 : FVec Ideal S4096x4096 .f32 := m ((c : Thread nD τ).loc main_arg3)
abbrev m4 : FVec Ideal S4096 .f32 := m ((c : Thread nD τ).loc main_arg4)
abbrev m5 : FVec Ideal S4096x1 .f32 := m ((c : Thread nD τ).loc main_arg5)
abbrev m6 : FVec Ideal S1 .f32 := m ((c : Thread nD τ).loc main_arg6)
abbrev m7 : FVec Ideal S4096 .f32 := m ((c : Thread nD τ).loc main_arg7)
abbrev m8 : FVec Ideal S4096 .f32 := m ((c : Thread nD τ).loc main_arg8)

/-! ## What the first region reads -/

theorem in_h : aH (tcOf (W1 m)) c = m0 m c := V1_of m c main_arg0 (by decide)
theorem in_p : aP (tcOf (W1 m)) c = m2 m c := V1_of m c main_arg2 (by decide)
theorem in_w : aW (tcOf (W1 m)) c = m3 m c := V1_of m c main_arg3 (by decide)
theorem in_wg : aWg (tcOf (W1 m)) c = m5 m c := V1_of m c main_arg5 (by decide)
/-- A vector made one row is read at its column. -/
theorem row_read (x : FVec Ideal S4096 .f32) (j : Fin 4096) : shapeCast S1x4096 x shapeCasts_S4096_S1x4096 (ix2 0 j) = x (ix1 j) := by
  pointwise
theorem one_read (x : FVec Ideal S1 .f32) : shapeCast S1x1 x shapeCasts_S1_S1x1 (ix2 0 0) = x (ix1 0) := by
  pointwise
theorem in_b (j : Fin 4096) : aB (tcOf (W1 m)) c (ix2 0 j) = m4 m c (ix1 j) :=
  (congrFun (in_v0 m c) (ix2 0 j)).trans (row_read (m4 m c) j)
theorem in_gm (j : Fin 4096) : aGm (tcOf (W1 m)) c (ix2 0 j) = m7 m c (ix1 j) :=
  (congrFun (in_v1 m c) (ix2 0 j)).trans (row_read (m7 m c) j)
theorem in_be (j : Fin 4096) : aBe (tcOf (W1 m)) c (ix2 0 j) = m8 m c (ix1 j) :=
  (congrFun (in_v2 m c) (ix2 0 j)).trans (row_read (m8 m c) j)
theorem in_bg : aBg (tcOf (W1 m)) c (ix2 0 0) = m6 m c (ix1 0) :=
  (congrFun (in_v3 m c) (ix2 0 0)).trans (one_read (m6 m c))

theorem push_eq (b : Fin 1024) : pushV (tcOf (W1 m)) c b = Cert.ReferenceIdeal.Val.push (m0 m c) (m3 m c) (m4 m c) b := by
  funext j
  rw [pushV, in_h, in_w, in_b]; rfl
theorem gate_eq (b : Fin 1024) : gateV (tcOf (W1 m)) c b = Cert.ReferenceIdeal.Val.gate (m0 m c) (m5 m c) (m6 m c) b := by
  rw [gateV, in_h, in_wg, in_bg]; rfl
theorem ptr_eq (b : Fin 1024) : ptrV (tcOf (W1 m)) c b = Cert.ReferenceIdeal.Val.ptr (m2 m c) b := by
  rw [ptrV, in_p]; rfl

/-- Row `b`'s gate, pointer and normalized push, from the arguments. -/
abbrev gA (b : Fin 1024) : BitVec 1 := Cert.ReferenceIdeal.Val.gate (m0 m c) (m5 m c) (m6 m c) b
abbrev pA (b : Fin 1024) : BitVec 32 := Cert.ReferenceIdeal.Val.ptr (m2 m c) b
abbrev nA (b : Fin 1024) (j : Fin 4096) : EReal :=
  normed (Cert.ReferenceIdeal.Val.push (m0 m c) (m3 m c) (m4 m c) b) (fun j => m7 m c (ix1 j)) (fun j => m8 m c (ix1 j)) j

theorem top_eq (b : Fin 1024) (j : Fin 4096) : topV (tcOf (W1 m)) c b j = Scalar.select (canPush (gA m c b) (pA m c b)) (nA m c b j) 0 := by
  rw [topV, push_eq, gate_eq, ptr_eq, show (fun j => aGm (tcOf (W1 m)) c (ix2 0 j)) = fun j => m7 m c (ix1 j) from funext (in_gm m c),
    show (fun j => aBe (tcOf (W1 m)) c (ix2 0 j)) = fun j => m8 m c (ix1 j) from funext (in_be m c)]

/-! ## What the second region reads -/

theorem mid_stk : aStk (tcOf (W2 m)) c = m1 m c :=
  (W2_off m c (b := main_arg1) (by decide)).trans (V1_of m c main_arg1 (by decide))
theorem mid_top (b : Fin 1024) (j : Fin 4096) :
    aTop (tcOf (W2 m)) c (ix2 b j) = Scalar.select (canPush (gA m c b) (pA m c b)) (nA m c b j) 0 :=
  (congrFun ((W2_out m c 8).trans (top_arr (tcOf (W1 m)) c)) (ix2 b j)).trans (top_eq m c b j)
theorem mid_ws (b : Fin 1024) : aWs (tcOf (W2 m)) c (ix2 b 0) = wslot (gA m c b) (pA m c b) :=
  (congrFun ((W2_out m c 10).trans (w_arr (tcOf (W1 m)) c)) (ix2 b 0)).trans (congrArg₂ wslot (gate_eq m c b) (ptr_eq m c b))
theorem mid_gs (b : Fin 1024) : aGs (tcOf (W2 m)) c (ix2 b 0) = gslot (gA m c b) (pA m c b) :=
  (congrFun ((W2_out m c 11).trans (g_arr (tcOf (W1 m)) c)) (ix2 b 0)).trans (congrArg₂ gslot (gate_eq m c b) (ptr_eq m c b))

/-! ## The results -/

/-- The stack the run ends with; -/
abbrev rStkA : FVec Ideal S1024x8x4096 .f32 := W3 m c (Proc.devRef .tc main_v5_0)
/-- the pointers; -/
abbrev rPtrA : FVec Ideal S1024x1 .f32 := W3 m c (Proc.devRef .tc main_v4_1)
/-- and the top items. -/
abbrev rItemA : FVec Ideal S1024x4096 .f32 := W3 m c (Proc.devRef .tc main_v5_1)

theorem stk_res (b : Fin 1024) (s : Fin 8) (j : Fin 4096) : rStkA m c (ix3 b s j) =
    Scalar.select (IntOp.andi (IntOp.cmpi .eq (BitVec.ofNat 32 s.val) (pA m c b)) (canPush (gA m c b) (pA m c b))) (nA m c b j) (m1 m c (ix3 b s j)) := by
  refine (congrFun ((W3_out m c 4).trans (stk_arr (tcOf (W2 m)) c)) (ix3 b s j)).trans ?_
  refine Eq.trans ?_ (stack_agree (gA m c b) (pA m c b) s (nA m c b j) (m1 m c (ix3 b s j)))
  show stkV (tcOf (W2 m)) c b s j = _
  rw [stkV, mid_ws, mid_top, mid_stk]

theorem ptr_res (b : Fin 1024) : rPtrA m c (ix2 b 0) = FloatOps.sitofp (F := Ideal) .f32 (nextPtr (gA m c b) (pA m c b)) := by
  refine (congrFun ((W3_off m c (b := main_v4_1) (by decide)).trans ((W2_out m c 9).trans (ptr_arr (tcOf (W1 m)) c))) (ix2 b 0)).trans ?_
  show FloatOps.sitofp (F := Ideal) .f32 (nextPtr (gateV (tcOf (W1 m)) c b) (ptrV (tcOf (W1 m)) c b)) = _
  rw [gate_eq, ptr_eq]

theorem item_res (b : Fin 1024) (j : Fin 4096) (hp : (pA m c b).toInt ≤ 8) : rItemA m c (ix2 b j) =
    Scalar.select (canPush (gA m c b) (pA m c b)) (nA m c b j)
      (Scalar.select (IntOp.ori (canPop (gA m c b) (pA m c b))
          (IntOp.andi (IntOp.andi (IntOp.xori (canPop (gA m c b) (pA m c b)) 1#1) (IntOp.xori (canPush (gA m c b) (pA m c b)) 1#1))
            (IntOp.cmpi .sgt (pA m c b) 0#32)))
        (m1 m c (ix3 b ⟨(prevSlot (pA m c b)).toInt.toNat, prevSlot_lt (pA m c b)⟩ j)) 0) := by
  refine (congrFun ((W3_out m c 5).trans (item_arr (tcOf (W2 m)) c)) (ix2 b j)).trans ?_
  refine Eq.trans ?_ (item_agree (gA m c b) (pA m c b) hp (fun s => m1 m c (ix3 b s j)) (nA m c b j))
  show itemV (tcOf (W2 m)) c b j = _
  rw [itemV, mid_gs, mid_top, mid_stk]

end Cert.KernelIdeal.Val

end
-- ==== Proof.Algebraic.lean ====
/-
  The value claim: over the extended reals, where no pointer is above the stack's depth, kernel and reference leave the same three arrays.
-/
module

public import proofs.«01_k».proof.Proof.Frames
public import proofs.«01_k».proof.Proof.PreVal
public import proofs.«01_k».proof.Proof.KerVal

@[expose] public section

set_option maxRecDepth 16384

noncomputable section

namespace Cert.Proof

open Idealize.ShloMosaic Idealize.ShloMosaic.TcCoe Idealize.SL.Sem
open Cert.KernelIdeal.Val
open Cert.ReferenceIdeal.Read (val_main_v67 val_main_v75 val_main_v87)

variable (m : (ℓ : Loc Cert.KernelIdeal.nD Cert.KernelIdeal.τ Cert.KernelIdeal.sig) → Buf (Elt Ideal) ℓ) (c : Dev Cert.KernelIdeal.nD)

theorem stk_same : val_main_v67 (F := Ideal) (m0 m c) (m1 m c) (m2 m c) (m3 m c) (m4 m c) (m5 m c) (m6 m c) (m7 m c) (m8 m c) = rStkA m c := by
  funext i
  idx_vars i
  exact (Cert.ReferenceIdeal.Val.v67_at _ _ _ _ _ _ _ _ _ i0 i1 i2).trans (stk_res m c i0 i1 i2).symm

theorem ptr_same : val_main_v75 (F := Ideal) (m0 m c) (m2 m c) (m5 m c) (m6 m c) = rPtrA m c := by
  funext i
  idx_vars i
  obtain rfl : i1 = 0 := Subsingleton.elim _ _
  exact (Cert.ReferenceIdeal.Val.v75_at _ _ _ _ i0).trans (ptr_res m c i0).symm

theorem item_same (hp : ∀ b : Fin 1024, (pA m c b).toInt ≤ 8) :
    val_main_v87 (F := Ideal) (m0 m c) (m1 m c) (m2 m c) (m3 m c) (m4 m c) (m5 m c) (m6 m c) (m7 m c) (m8 m c) = rItemA m c := by
  funext i
  idx_vars i
  exact (Cert.ReferenceIdeal.Val.v87_at _ _ _ _ _ _ _ _ _ i0 i1).trans (item_res m c i0 i1 (hp i0)).symm

theorem value_claim : Cert.algebraic_KernelIdeal_ReferenceIdeal_pre_pointer_at_most_depth (hKernelIdeal := Cert.KernelIdeal.Gen.facts)
    (hReferenceIdeal := Cert.ReferenceIdeal.Gen.facts) (hPre_pointer_at_most_depth := preFacts) := by
  intro m g m' g' hpre hargs
  have hp : ∀ (c : Dev Cert.KernelIdeal.nD) (b : Fin 1024), (pA m c b).toInt ≤ 8 := fun c b =>
    haveI := preFacts
    Cert.Pre_pointer_at_most_depth.Val.bound _ _ _ _ _ _ _ _ _ (hpre c) b
  refine ⟨fun c => rStkA m c, fun c => rPtrA m c, fun c => rItemA m c,
    (Cert.KernelIdeal.Run.run_all (F := Ideal) m g).mono fun r h c =>
      ⟨h.1 c Cert.KernelIdeal.main_v5_0 rfl, h.1 c Cert.KernelIdeal.main_v4_1 rfl, h.1 c Cert.KernelIdeal.main_v5_1 rfl, Cert.KernelIdeal.Run.Ends.args m h c⟩,
    (Cert.ReferenceIdeal.Value.run (F := Ideal) m' g').mono fun r h c => ?_⟩
  obtain ⟨h67, h75, h87, hrest⟩ := h c
  obtain ⟨e0, e1, e2, e3, e4, e5, e6, e7, e8⟩ := hargs c
  refine ⟨h67.trans ((Cert.ReferenceIdeal.Read.val_main_v67_eq m' c).trans ?_),
    h75.trans ((Cert.ReferenceIdeal.Read.val_main_v75_eq _ _ _ _).trans ?_),
    h87.trans ((Cert.ReferenceIdeal.Read.val_main_v87_eq m' c).trans ?_), hrest⟩
  · rw [e0, e1, e2, e3, e4, e5, e6, e7, e8]; exact stk_same m c
  · rw [e0, e2, e5, e6]; exact ptr_same m c
  · rw [e0, e1, e2, e3, e4, e5, e6, e7, e8]; exact item_same m c (hp c)

end Cert.Proof

end
-- ==== Proof.lean ====
/-
  The certificate: the frames, the idealization's own claim, and the value claim.
-/
module

public import proofs.«01_k».proof.Defs
public import proofs.«01_k».proof.Proof.Frames
public import proofs.«01_k».proof.Proof.Algebraic
public import proofs.«01_k».proof.Proof.Gen.ReferenceIdeal.Read
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, preFacts,
    frame_kernel, frame_kernelIdeal, fun m g _ => frame_kernelIdeal m g trivial,
    frame_referenceIdeal, fun m g _ => frame_referenceIdeal m g trivial, trivial, value_claim⟩

end Cert.Proof

end
